-- ==== Defs.lean ====
def Pre_Kernel [hPre_pi_0123_Kernel : Cert.Pre_pi_0123_Kernel.Facts] (m : (ℓ : Loc Cert.Kernel.nD Cert.Kernel.τ Cert.Kernel.sig) → Buf (Elt Bits) ℓ) : Prop :=
  ∀ c : Dev Cert.Kernel.nD,
    (Cert.Pre_pi_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0132_Kernel [hPre_pi_0132_Kernel : Cert.Pre_pi_0132_Kernel.Facts] (m : (ℓ : Loc Cert.Kernel.nD Cert.Kernel.τ Cert.Kernel.sig) → Buf (Elt Bits) ℓ) : Prop :=
  ∀ c : Dev Cert.Kernel.nD,
    (Cert.Pre_pi_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0213_Kernel [hPre_pi_0213_Kernel : Cert.Pre_pi_0213_Kernel.Facts] (m : (ℓ : Loc Cert.Kernel.nD Cert.Kernel.τ Cert.Kernel.sig) → Buf (Elt Bits) ℓ) : Prop :=
  ∀ c : Dev Cert.Kernel.nD,
    (Cert.Pre_pi_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0231_Kernel [hPre_pi_0231_Kernel : Cert.Pre_pi_0231_Kernel.Facts] (m : (ℓ : Loc Cert.Kernel.nD Cert.Kernel.τ Cert.Kernel.sig) → Buf (Elt Bits) ℓ) : Prop :=
  ∀ c : Dev Cert.Kernel.nD,
    (Cert.Pre_pi_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0312_Kernel [hPre_pi_0312_Kernel : Cert.Pre_pi_0312_Kernel.Facts] (m : (ℓ : Loc Cert.Kernel.nD Cert.Kernel.τ Cert.Kernel.sig) → Buf (Elt Bits) ℓ) : Prop :=
  ∀ c : Dev Cert.Kernel.nD,
    (Cert.Pre_pi_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0321_Kernel [hPre_pi_0321_Kernel : Cert.Pre_pi_0321_Kernel.Facts] (m : (ℓ : Loc Cert.Kernel.nD Cert.Kernel.τ Cert.Kernel.sig) → Buf (Elt Bits) ℓ) : Prop :=
  ∀ c : Dev Cert.Kernel.nD,
    (Cert.Pre_pi_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1023_Kernel [hPre_pi_1023_Kernel : Cert.Pre_pi_1023_Kernel.Facts] (m : (ℓ : Loc Cert.Kernel.nD Cert.Kernel.τ Cert.Kernel.sig) → Buf (Elt Bits) ℓ) : Prop :=
  ∀ c : Dev Cert.Kernel.nD,
    (Cert.Pre_pi_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1032_Kernel [hPre_pi_1032_Kernel : Cert.Pre_pi_1032_Kernel.Facts] (m : (ℓ : Loc Cert.Kernel.nD Cert.Kernel.τ Cert.Kernel.sig) → Buf (Elt Bits) ℓ) : Prop :=
  ∀ c : Dev Cert.Kernel.nD,
    (Cert.Pre_pi_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1203_Kernel [hPre_pi_1203_Kernel : Cert.Pre_pi_1203_Kernel.Facts] (m : (ℓ : Loc Cert.Kernel.nD Cert.Kernel.τ Cert.Kernel.sig) → Buf (Elt Bits) ℓ) : Prop :=
  ∀ c : Dev Cert.Kernel.nD,
    (Cert.Pre_pi_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1230_Kernel [hPre_pi_1230_Kernel : Cert.Pre_pi_1230_Kernel.Facts] (m : (ℓ : Loc Cert.Kernel.nD Cert.Kernel.τ Cert.Kernel.sig) → Buf (Elt Bits) ℓ) : Prop :=
  ∀ c : Dev Cert.Kernel.nD,
    (Cert.Pre_pi_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1302_Kernel [hPre_pi_1302_Kernel : Cert.Pre_pi_1302_Kernel.Facts] (m : (ℓ : Loc Cert.Kernel.nD Cert.Kernel.τ Cert.Kernel.sig) → Buf (Elt Bits) ℓ) : Prop :=
  ∀ c : Dev Cert.Kernel.nD,
    (Cert.Pre_pi_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1320_Kernel [hPre_pi_1320_Kernel : Cert.Pre_pi_1320_Kernel.Facts] (m : (ℓ : Loc Cert.Kernel.nD Cert.Kernel.τ Cert.Kernel.sig) → Buf (Elt Bits) ℓ) : Prop :=
  ∀ c : Dev Cert.Kernel.nD,
    (Cert.Pre_pi_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2013_Kernel [hPre_pi_2013_Kernel : Cert.Pre_pi_2013_Kernel.Facts] (m : (ℓ : Loc Cert.Kernel.nD Cert.Kernel.τ Cert.Kernel.sig) → Buf (Elt Bits) ℓ) : Prop :=
  ∀ c : Dev Cert.Kernel.nD,
    (Cert.Pre_pi_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2031_Kernel [hPre_pi_2031_Kernel : Cert.Pre_pi_2031_Kernel.Facts] (m : (ℓ : Loc Cert.Kernel.nD Cert.Kernel.τ Cert.Kernel.sig) → Buf (Elt Bits) ℓ) : Prop :=
  ∀ c : Dev Cert.Kernel.nD,
    (Cert.Pre_pi_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2103_Kernel [hPre_pi_2103_Kernel : Cert.Pre_pi_2103_Kernel.Facts] (m : (ℓ : Loc Cert.Kernel.nD Cert.Kernel.τ Cert.Kernel.sig) → Buf (Elt Bits) ℓ) : Prop :=
  ∀ c : Dev Cert.Kernel.nD,
    (Cert.Pre_pi_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2130_Kernel [hPre_pi_2130_Kernel : Cert.Pre_pi_2130_Kernel.Facts] (m : (ℓ : Loc Cert.Kernel.nD Cert.Kernel.τ Cert.Kernel.sig) → Buf (Elt Bits) ℓ) : Prop :=
  ∀ c : Dev Cert.Kernel.nD,
    (Cert.Pre_pi_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2301_Kernel [hPre_pi_2301_Kernel : Cert.Pre_pi_2301_Kernel.Facts] (m : (ℓ : Loc Cert.Kernel.nD Cert.Kernel.τ Cert.Kernel.sig) → Buf (Elt Bits) ℓ) : Prop :=
  ∀ c : Dev Cert.Kernel.nD,
    (Cert.Pre_pi_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2310_Kernel [hPre_pi_2310_Kernel : Cert.Pre_pi_2310_Kernel.Facts] (m : (ℓ : Loc Cert.Kernel.nD Cert.Kernel.τ Cert.Kernel.sig) → Buf (Elt Bits) ℓ) : Prop :=
  ∀ c : Dev Cert.Kernel.nD,
    (Cert.Pre_pi_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3012_Kernel [hPre_pi_3012_Kernel : Cert.Pre_pi_3012_Kernel.Facts] (m : (ℓ : Loc Cert.Kernel.nD Cert.Kernel.τ Cert.Kernel.sig) → Buf (Elt Bits) ℓ) : Prop :=
  ∀ c : Dev Cert.Kernel.nD,
    (Cert.Pre_pi_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3021_Kernel [hPre_pi_3021_Kernel : Cert.Pre_pi_3021_Kernel.Facts] (m : (ℓ : Loc Cert.Kernel.nD Cert.Kernel.τ Cert.Kernel.sig) → Buf (Elt Bits) ℓ) : Prop :=
  ∀ c : Dev Cert.Kernel.nD,
    (Cert.Pre_pi_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3102_Kernel [hPre_pi_3102_Kernel : Cert.Pre_pi_3102_Kernel.Facts] (m : (ℓ : Loc Cert.Kernel.nD Cert.Kernel.τ Cert.Kernel.sig) → Buf (Elt Bits) ℓ) : Prop :=
  ∀ c : Dev Cert.Kernel.nD,
    (Cert.Pre_pi_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3120_Kernel [hPre_pi_3120_Kernel : Cert.Pre_pi_3120_Kernel.Facts] (m : (ℓ : Loc Cert.Kernel.nD Cert.Kernel.τ Cert.Kernel.sig) → Buf (Elt Bits) ℓ) : Prop :=
  ∀ c : Dev Cert.Kernel.nD,
    (Cert.Pre_pi_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3201_Kernel [hPre_pi_3201_Kernel : Cert.Pre_pi_3201_Kernel.Facts] (m : (ℓ : Loc Cert.Kernel.nD Cert.Kernel.τ Cert.Kernel.sig) → Buf (Elt Bits) ℓ) : Prop :=
  ∀ c : Dev Cert.Kernel.nD,
    (Cert.Pre_pi_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3210_Kernel [hPre_pi_3210_Kernel : Cert.Pre_pi_3210_Kernel.Facts] (m : (ℓ : Loc Cert.Kernel.nD Cert.Kernel.τ Cert.Kernel.sig) → Buf (Elt Bits) ℓ) : Prop :=
  ∀ c : Dev Cert.Kernel.nD,
    (Cert.Pre_pi_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_0123_Kernel : Cert.Pre_pi_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0132_Kernel [hPre_pi_0132_Kernel : Cert.Pre_pi_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0213_Kernel [hPre_pi_0213_Kernel : Cert.Pre_pi_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0231_Kernel [hPre_pi_0231_Kernel : Cert.Pre_pi_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0312_Kernel [hPre_pi_0312_Kernel : Cert.Pre_pi_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0321_Kernel [hPre_pi_0321_Kernel : Cert.Pre_pi_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1023_Kernel [hPre_pi_1023_Kernel : Cert.Pre_pi_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1032_Kernel [hPre_pi_1032_Kernel : Cert.Pre_pi_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1203_Kernel [hPre_pi_1203_Kernel : Cert.Pre_pi_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1230_Kernel [hPre_pi_1230_Kernel : Cert.Pre_pi_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1302_Kernel [hPre_pi_1302_Kernel : Cert.Pre_pi_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1320_Kernel [hPre_pi_1320_Kernel : Cert.Pre_pi_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2013_Kernel [hPre_pi_2013_Kernel : Cert.Pre_pi_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2031_Kernel [hPre_pi_2031_Kernel : Cert.Pre_pi_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2103_Kernel [hPre_pi_2103_Kernel : Cert.Pre_pi_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2130_Kernel [hPre_pi_2130_Kernel : Cert.Pre_pi_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2301_Kernel [hPre_pi_2301_Kernel : Cert.Pre_pi_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2310_Kernel [hPre_pi_2310_Kernel : Cert.Pre_pi_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3012_Kernel [hPre_pi_3012_Kernel : Cert.Pre_pi_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3021_Kernel [hPre_pi_3021_Kernel : Cert.Pre_pi_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3102_Kernel [hPre_pi_3102_Kernel : Cert.Pre_pi_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3120_Kernel [hPre_pi_3120_Kernel : Cert.Pre_pi_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3201_Kernel [hPre_pi_3201_Kernel : Cert.Pre_pi_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3210_Kernel [hPre_pi_3210_Kernel : Cert.Pre_pi_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_0123_ReferenceIdeal [hPre_pi_0123_ReferenceIdeal : Cert.Pre_pi_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0132_ReferenceIdeal [hPre_pi_0132_ReferenceIdeal : Cert.Pre_pi_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0213_ReferenceIdeal [hPre_pi_0213_ReferenceIdeal : Cert.Pre_pi_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0231_ReferenceIdeal [hPre_pi_0231_ReferenceIdeal : Cert.Pre_pi_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0312_ReferenceIdeal [hPre_pi_0312_ReferenceIdeal : Cert.Pre_pi_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0321_ReferenceIdeal [hPre_pi_0321_ReferenceIdeal : Cert.Pre_pi_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1023_ReferenceIdeal [hPre_pi_1023_ReferenceIdeal : Cert.Pre_pi_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1032_ReferenceIdeal [hPre_pi_1032_ReferenceIdeal : Cert.Pre_pi_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1203_ReferenceIdeal [hPre_pi_1203_ReferenceIdeal : Cert.Pre_pi_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1230_ReferenceIdeal [hPre_pi_1230_ReferenceIdeal : Cert.Pre_pi_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1302_ReferenceIdeal [hPre_pi_1302_ReferenceIdeal : Cert.Pre_pi_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1320_ReferenceIdeal [hPre_pi_1320_ReferenceIdeal : Cert.Pre_pi_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2013_ReferenceIdeal [hPre_pi_2013_ReferenceIdeal : Cert.Pre_pi_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2031_ReferenceIdeal [hPre_pi_2031_ReferenceIdeal : Cert.Pre_pi_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2103_ReferenceIdeal [hPre_pi_2103_ReferenceIdeal : Cert.Pre_pi_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2130_ReferenceIdeal [hPre_pi_2130_ReferenceIdeal : Cert.Pre_pi_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2301_ReferenceIdeal [hPre_pi_2301_ReferenceIdeal : Cert.Pre_pi_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2310_ReferenceIdeal [hPre_pi_2310_ReferenceIdeal : Cert.Pre_pi_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3012_ReferenceIdeal [hPre_pi_3012_ReferenceIdeal : Cert.Pre_pi_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3021_ReferenceIdeal [hPre_pi_3021_ReferenceIdeal : Cert.Pre_pi_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3102_ReferenceIdeal [hPre_pi_3102_ReferenceIdeal : Cert.Pre_pi_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3120_ReferenceIdeal [hPre_pi_3120_ReferenceIdeal : Cert.Pre_pi_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3201_ReferenceIdeal [hPre_pi_3201_ReferenceIdeal : Cert.Pre_pi_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3210_ReferenceIdeal [hPre_pi_3210_ReferenceIdeal : Cert.Pre_pi_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_0123_Kernel : Cert.Pre_pi_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0132_Kernel [hKernel : Cert.Kernel.Facts] [hPre_pi_0132_Kernel : Cert.Pre_pi_0132_Kernel.Facts] : Prop :=
  ∀ (m : (ℓ : Loc Cert.Kernel.nD Cert.Kernel.τ Cert.Kernel.sig) → Buf (Elt Bits) ℓ) (g : Dev Cert.Kernel.nD → PrngReg), Pre_Kernel_pi_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0213_Kernel [hKernel : Cert.Kernel.Facts] [hPre_pi_0213_Kernel : Cert.Pre_pi_0213_Kernel.Facts] : Prop :=
  ∀ (m : (ℓ : Loc Cert.Kernel.nD Cert.Kernel.τ Cert.Kernel.sig) → Buf (Elt Bits) ℓ) (g : Dev Cert.Kernel.nD → PrngReg), Pre_Kernel_pi_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0231_Kernel [hKernel : Cert.Kernel.Facts] [hPre_pi_0231_Kernel : Cert.Pre_pi_0231_Kernel.Facts] : Prop :=
  ∀ (m : (ℓ : Loc Cert.Kernel.nD Cert.Kernel.τ Cert.Kernel.sig) → Buf (Elt Bits) ℓ) (g : Dev Cert.Kernel.nD → PrngReg), Pre_Kernel_pi_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0312_Kernel [hKernel : Cert.Kernel.Facts] [hPre_pi_0312_Kernel : Cert.Pre_pi_0312_Kernel.Facts] : Prop :=
  ∀ (m : (ℓ : Loc Cert.Kernel.nD Cert.Kernel.τ Cert.Kernel.sig) → Buf (Elt Bits) ℓ) (g : Dev Cert.Kernel.nD → PrngReg), Pre_Kernel_pi_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0321_Kernel [hKernel : Cert.Kernel.Facts] [hPre_pi_0321_Kernel : Cert.Pre_pi_0321_Kernel.Facts] : Prop :=
  ∀ (m : (ℓ : Loc Cert.Kernel.nD Cert.Kernel.τ Cert.Kernel.sig) → Buf (Elt Bits) ℓ) (g : Dev Cert.Kernel.nD → PrngReg), Pre_Kernel_pi_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1023_Kernel [hKernel : Cert.Kernel.Facts] [hPre_pi_1023_Kernel : Cert.Pre_pi_1023_Kernel.Facts] : Prop :=
  ∀ (m : (ℓ : Loc Cert.Kernel.nD Cert.Kernel.τ Cert.Kernel.sig) → Buf (Elt Bits) ℓ) (g : Dev Cert.Kernel.nD → PrngReg), Pre_Kernel_pi_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1032_Kernel [hKernel : Cert.Kernel.Facts] [hPre_pi_1032_Kernel : Cert.Pre_pi_1032_Kernel.Facts] : Prop :=
  ∀ (m : (ℓ : Loc Cert.Kernel.nD Cert.Kernel.τ Cert.Kernel.sig) → Buf (Elt Bits) ℓ) (g : Dev Cert.Kernel.nD → PrngReg), Pre_Kernel_pi_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1203_Kernel [hKernel : Cert.Kernel.Facts] [hPre_pi_1203_Kernel : Cert.Pre_pi_1203_Kernel.Facts] : Prop :=
  ∀ (m : (ℓ : Loc Cert.Kernel.nD Cert.Kernel.τ Cert.Kernel.sig) → Buf (Elt Bits) ℓ) (g : Dev Cert.Kernel.nD → PrngReg), Pre_Kernel_pi_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1230_Kernel [hKernel : Cert.Kernel.Facts] [hPre_pi_1230_Kernel : Cert.Pre_pi_1230_Kernel.Facts] : Prop :=
  ∀ (m : (ℓ : Loc Cert.Kernel.nD Cert.Kernel.τ Cert.Kernel.sig) → Buf (Elt Bits) ℓ) (g : Dev Cert.Kernel.nD → PrngReg), Pre_Kernel_pi_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1302_Kernel [hKernel : Cert.Kernel.Facts] [hPre_pi_1302_Kernel : Cert.Pre_pi_1302_Kernel.Facts] : Prop :=
  ∀ (m : (ℓ : Loc Cert.Kernel.nD Cert.Kernel.τ Cert.Kernel.sig) → Buf (Elt Bits) ℓ) (g : Dev Cert.Kernel.nD → PrngReg), Pre_Kernel_pi_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1320_Kernel [hKernel : Cert.Kernel.Facts] [hPre_pi_1320_Kernel : Cert.Pre_pi_1320_Kernel.Facts] : Prop :=
  ∀ (m : (ℓ : Loc Cert.Kernel.nD Cert.Kernel.τ Cert.Kernel.sig) → Buf (Elt Bits) ℓ) (g : Dev Cert.Kernel.nD → PrngReg), Pre_Kernel_pi_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2013_Kernel [hKernel : Cert.Kernel.Facts] [hPre_pi_2013_Kernel : Cert.Pre_pi_2013_Kernel.Facts] : Prop :=
  ∀ (m : (ℓ : Loc Cert.Kernel.nD Cert.Kernel.τ Cert.Kernel.sig) → Buf (Elt Bits) ℓ) (g : Dev Cert.Kernel.nD → PrngReg), Pre_Kernel_pi_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2031_Kernel [hKernel : Cert.Kernel.Facts] [hPre_pi_2031_Kernel : Cert.Pre_pi_2031_Kernel.Facts] : Prop :=
  ∀ (m : (ℓ : Loc Cert.Kernel.nD Cert.Kernel.τ Cert.Kernel.sig) → Buf (Elt Bits) ℓ) (g : Dev Cert.Kernel.nD → PrngReg), Pre_Kernel_pi_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2103_Kernel [hKernel : Cert.Kernel.Facts] [hPre_pi_2103_Kernel : Cert.Pre_pi_2103_Kernel.Facts] : Prop :=
  ∀ (m : (ℓ : Loc Cert.Kernel.nD Cert.Kernel.τ Cert.Kernel.sig) → Buf (Elt Bits) ℓ) (g : Dev Cert.Kernel.nD → PrngReg), Pre_Kernel_pi_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2130_Kernel [hKernel : Cert.Kernel.Facts] [hPre_pi_2130_Kernel : Cert.Pre_pi_2130_Kernel.Facts] : Prop :=
  ∀ (m : (ℓ : Loc Cert.Kernel.nD Cert.Kernel.τ Cert.Kernel.sig) → Buf (Elt Bits) ℓ) (g : Dev Cert.Kernel.nD → PrngReg), Pre_Kernel_pi_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2301_Kernel [hKernel : Cert.Kernel.Facts] [hPre_pi_2301_Kernel : Cert.Pre_pi_2301_Kernel.Facts] : Prop :=
  ∀ (m : (ℓ : Loc Cert.Kernel.nD Cert.Kernel.τ Cert.Kernel.sig) → Buf (Elt Bits) ℓ) (g : Dev Cert.Kernel.nD → PrngReg), Pre_Kernel_pi_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2310_Kernel [hKernel : Cert.Kernel.Facts] [hPre_pi_2310_Kernel : Cert.Pre_pi_2310_Kernel.Facts] : Prop :=
  ∀ (m : (ℓ : Loc Cert.Kernel.nD Cert.Kernel.τ Cert.Kernel.sig) → Buf (Elt Bits) ℓ) (g : Dev Cert.Kernel.nD → PrngReg), Pre_Kernel_pi_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3012_Kernel [hKernel : Cert.Kernel.Facts] [hPre_pi_3012_Kernel : Cert.Pre_pi_3012_Kernel.Facts] : Prop :=
  ∀ (m : (ℓ : Loc Cert.Kernel.nD Cert.Kernel.τ Cert.Kernel.sig) → Buf (Elt Bits) ℓ) (g : Dev Cert.Kernel.nD → PrngReg), Pre_Kernel_pi_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3021_Kernel [hKernel : Cert.Kernel.Facts] [hPre_pi_3021_Kernel : Cert.Pre_pi_3021_Kernel.Facts] : Prop :=
  ∀ (m : (ℓ : Loc Cert.Kernel.nD Cert.Kernel.τ Cert.Kernel.sig) → Buf (Elt Bits) ℓ) (g : Dev Cert.Kernel.nD → PrngReg), Pre_Kernel_pi_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3102_Kernel [hKernel : Cert.Kernel.Facts] [hPre_pi_3102_Kernel : Cert.Pre_pi_3102_Kernel.Facts] : Prop :=
  ∀ (m : (ℓ : Loc Cert.Kernel.nD Cert.Kernel.τ Cert.Kernel.sig) → Buf (Elt Bits) ℓ) (g : Dev Cert.Kernel.nD → PrngReg), Pre_Kernel_pi_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3120_Kernel [hKernel : Cert.Kernel.Facts] [hPre_pi_3120_Kernel : Cert.Pre_pi_3120_Kernel.Facts] : Prop :=
  ∀ (m : (ℓ : Loc Cert.Kernel.nD Cert.Kernel.τ Cert.Kernel.sig) → Buf (Elt Bits) ℓ) (g : Dev Cert.Kernel.nD → PrngReg), Pre_Kernel_pi_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3201_Kernel [hKernel : Cert.Kernel.Facts] [hPre_pi_3201_Kernel : Cert.Pre_pi_3201_Kernel.Facts] : Prop :=
  ∀ (m : (ℓ : Loc Cert.Kernel.nD Cert.Kernel.τ Cert.Kernel.sig) → Buf (Elt Bits) ℓ) (g : Dev Cert.Kernel.nD → PrngReg), Pre_Kernel_pi_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3210_Kernel [hKernel : Cert.Kernel.Facts] [hPre_pi_3210_Kernel : Cert.Pre_pi_3210_Kernel.Facts] : Prop :=
  ∀ (m : (ℓ : Loc Cert.Kernel.nD Cert.Kernel.τ Cert.Kernel.sig) → Buf (Elt Bits) ℓ) (g : Dev Cert.Kernel.nD → PrngReg), Pre_Kernel_pi_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0132_Kernel [hKernelIdeal : Cert.KernelIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0213_Kernel [hKernelIdeal : Cert.KernelIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0231_Kernel [hKernelIdeal : Cert.KernelIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0312_Kernel [hKernelIdeal : Cert.KernelIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0321_Kernel [hKernelIdeal : Cert.KernelIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1023_Kernel [hKernelIdeal : Cert.KernelIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1032_Kernel [hKernelIdeal : Cert.KernelIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1203_Kernel [hKernelIdeal : Cert.KernelIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1230_Kernel [hKernelIdeal : Cert.KernelIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1302_Kernel [hKernelIdeal : Cert.KernelIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1320_Kernel [hKernelIdeal : Cert.KernelIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2013_Kernel [hKernelIdeal : Cert.KernelIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2031_Kernel [hKernelIdeal : Cert.KernelIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2103_Kernel [hKernelIdeal : Cert.KernelIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2130_Kernel [hKernelIdeal : Cert.KernelIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2301_Kernel [hKernelIdeal : Cert.KernelIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2310_Kernel [hKernelIdeal : Cert.KernelIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3012_Kernel [hKernelIdeal : Cert.KernelIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3021_Kernel [hKernelIdeal : Cert.KernelIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3102_Kernel [hKernelIdeal : Cert.KernelIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3120_Kernel [hKernelIdeal : Cert.KernelIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3201_Kernel [hKernelIdeal : Cert.KernelIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3210_Kernel [hKernelIdeal : Cert.KernelIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0123_ReferenceIdeal [hReferenceIdeal : Cert.ReferenceIdeal.Facts] [hPre_pi_0123_ReferenceIdeal : Cert.Pre_pi_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0132_ReferenceIdeal [hReferenceIdeal : Cert.ReferenceIdeal.Facts] [hPre_pi_0132_ReferenceIdeal : Cert.Pre_pi_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0213_ReferenceIdeal [hReferenceIdeal : Cert.ReferenceIdeal.Facts] [hPre_pi_0213_ReferenceIdeal : Cert.Pre_pi_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0231_ReferenceIdeal [hReferenceIdeal : Cert.ReferenceIdeal.Facts] [hPre_pi_0231_ReferenceIdeal : Cert.Pre_pi_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0312_ReferenceIdeal [hReferenceIdeal : Cert.ReferenceIdeal.Facts] [hPre_pi_0312_ReferenceIdeal : Cert.Pre_pi_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0321_ReferenceIdeal [hReferenceIdeal : Cert.ReferenceIdeal.Facts] [hPre_pi_0321_ReferenceIdeal : Cert.Pre_pi_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1023_ReferenceIdeal [hReferenceIdeal : Cert.ReferenceIdeal.Facts] [hPre_pi_1023_ReferenceIdeal : Cert.Pre_pi_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1032_ReferenceIdeal [hReferenceIdeal : Cert.ReferenceIdeal.Facts] [hPre_pi_1032_ReferenceIdeal : Cert.Pre_pi_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1203_ReferenceIdeal [hReferenceIdeal : Cert.ReferenceIdeal.Facts] [hPre_pi_1203_ReferenceIdeal : Cert.Pre_pi_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1230_ReferenceIdeal [hReferenceIdeal : Cert.ReferenceIdeal.Facts] [hPre_pi_1230_ReferenceIdeal : Cert.Pre_pi_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1302_ReferenceIdeal [hReferenceIdeal : Cert.ReferenceIdeal.Facts] [hPre_pi_1302_ReferenceIdeal : Cert.Pre_pi_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1320_ReferenceIdeal [hReferenceIdeal : Cert.ReferenceIdeal.Facts] [hPre_pi_1320_ReferenceIdeal : Cert.Pre_pi_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2013_ReferenceIdeal [hReferenceIdeal : Cert.ReferenceIdeal.Facts] [hPre_pi_2013_ReferenceIdeal : Cert.Pre_pi_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2031_ReferenceIdeal [hReferenceIdeal : Cert.ReferenceIdeal.Facts] [hPre_pi_2031_ReferenceIdeal : Cert.Pre_pi_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2103_ReferenceIdeal [hReferenceIdeal : Cert.ReferenceIdeal.Facts] [hPre_pi_2103_ReferenceIdeal : Cert.Pre_pi_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2130_ReferenceIdeal [hReferenceIdeal : Cert.ReferenceIdeal.Facts] [hPre_pi_2130_ReferenceIdeal : Cert.Pre_pi_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2301_ReferenceIdeal [hReferenceIdeal : Cert.ReferenceIdeal.Facts] [hPre_pi_2301_ReferenceIdeal : Cert.Pre_pi_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2310_ReferenceIdeal [hReferenceIdeal : Cert.ReferenceIdeal.Facts] [hPre_pi_2310_ReferenceIdeal : Cert.Pre_pi_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3012_ReferenceIdeal [hReferenceIdeal : Cert.ReferenceIdeal.Facts] [hPre_pi_3012_ReferenceIdeal : Cert.Pre_pi_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3021_ReferenceIdeal [hReferenceIdeal : Cert.ReferenceIdeal.Facts] [hPre_pi_3021_ReferenceIdeal : Cert.Pre_pi_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3102_ReferenceIdeal [hReferenceIdeal : Cert.ReferenceIdeal.Facts] [hPre_pi_3102_ReferenceIdeal : Cert.Pre_pi_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3120_ReferenceIdeal [hReferenceIdeal : Cert.ReferenceIdeal.Facts] [hPre_pi_3120_ReferenceIdeal : Cert.Pre_pi_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3201_ReferenceIdeal [hReferenceIdeal : Cert.ReferenceIdeal.Facts] [hPre_pi_3201_ReferenceIdeal : Cert.Pre_pi_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3210_ReferenceIdeal [hReferenceIdeal : Cert.ReferenceIdeal.Facts] [hPre_pi_3210_ReferenceIdeal : Cert.Pre_pi_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0132_Kernel [hKernelIdeal : Cert.KernelIdeal.Facts] [hReferenceIdeal : Cert.ReferenceIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0132_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0213_Kernel [hKernelIdeal : Cert.KernelIdeal.Facts] [hReferenceIdeal : Cert.ReferenceIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0213_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0231_Kernel [hKernelIdeal : Cert.KernelIdeal.Facts] [hReferenceIdeal : Cert.ReferenceIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0231_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0312_Kernel [hKernelIdeal : Cert.KernelIdeal.Facts] [hReferenceIdeal : Cert.ReferenceIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0312_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0321_Kernel [hKernelIdeal : Cert.KernelIdeal.Facts] [hReferenceIdeal : Cert.ReferenceIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0321_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1023_Kernel [hKernelIdeal : Cert.KernelIdeal.Facts] [hReferenceIdeal : Cert.ReferenceIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1023_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1032_Kernel [hKernelIdeal : Cert.KernelIdeal.Facts] [hReferenceIdeal : Cert.ReferenceIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1032_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1203_Kernel [hKernelIdeal : Cert.KernelIdeal.Facts] [hReferenceIdeal : Cert.ReferenceIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1203_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1230_Kernel [hKernelIdeal : Cert.KernelIdeal.Facts] [hReferenceIdeal : Cert.ReferenceIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1230_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1302_Kernel [hKernelIdeal : Cert.KernelIdeal.Facts] [hReferenceIdeal : Cert.ReferenceIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1302_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1320_Kernel [hKernelIdeal : Cert.KernelIdeal.Facts] [hReferenceIdeal : Cert.ReferenceIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1320_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2013_Kernel [hKernelIdeal : Cert.KernelIdeal.Facts] [hReferenceIdeal : Cert.ReferenceIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2013_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2031_Kernel [hKernelIdeal : Cert.KernelIdeal.Facts] [hReferenceIdeal : Cert.ReferenceIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2031_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2103_Kernel [hKernelIdeal : Cert.KernelIdeal.Facts] [hReferenceIdeal : Cert.ReferenceIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2103_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2130_Kernel [hKernelIdeal : Cert.KernelIdeal.Facts] [hReferenceIdeal : Cert.ReferenceIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2130_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2301_Kernel [hKernelIdeal : Cert.KernelIdeal.Facts] [hReferenceIdeal : Cert.ReferenceIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2301_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2310_Kernel [hKernelIdeal : Cert.KernelIdeal.Facts] [hReferenceIdeal : Cert.ReferenceIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2310_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3012_Kernel [hKernelIdeal : Cert.KernelIdeal.Facts] [hReferenceIdeal : Cert.ReferenceIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3012_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3021_Kernel [hKernelIdeal : Cert.KernelIdeal.Facts] [hReferenceIdeal : Cert.ReferenceIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3021_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3102_Kernel [hKernelIdeal : Cert.KernelIdeal.Facts] [hReferenceIdeal : Cert.ReferenceIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3102_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3120_Kernel [hKernelIdeal : Cert.KernelIdeal.Facts] [hReferenceIdeal : Cert.ReferenceIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3120_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3201_Kernel [hKernelIdeal : Cert.KernelIdeal.Facts] [hReferenceIdeal : Cert.ReferenceIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3201_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3210_Kernel [hKernelIdeal : Cert.KernelIdeal.Facts] [hReferenceIdeal : Cert.ReferenceIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3210_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_0123_Kernel : Cert.Pre_pi_0123_Kernel.Facts) (hPre_pi_0132_Kernel : Cert.Pre_pi_0132_Kernel.Facts) (hPre_pi_0213_Kernel : Cert.Pre_pi_0213_Kernel.Facts) (hPre_pi_0231_Kernel : Cert.Pre_pi_0231_Kernel.Facts) (hPre_pi_0312_Kernel : Cert.Pre_pi_0312_Kernel.Facts) (hPre_pi_0321_Kernel : Cert.Pre_pi_0321_Kernel.Facts) (hPre_pi_1023_Kernel : Cert.Pre_pi_1023_Kernel.Facts) (hPre_pi_1032_Kernel : Cert.Pre_pi_1032_Kernel.Facts) (hPre_pi_1203_Kernel : Cert.Pre_pi_1203_Kernel.Facts) (hPre_pi_1230_Kernel : Cert.Pre_pi_1230_Kernel.Facts) (hPre_pi_1302_Kernel : Cert.Pre_pi_1302_Kernel.Facts) (hPre_pi_1320_Kernel : Cert.Pre_pi_1320_Kernel.Facts) (hPre_pi_2013_Kernel : Cert.Pre_pi_2013_Kernel.Facts) (hPre_pi_2031_Kernel : Cert.Pre_pi_2031_Kernel.Facts) (hPre_pi_2103_Kernel : Cert.Pre_pi_2103_Kernel.Facts) (hPre_pi_2130_Kernel : Cert.Pre_pi_2130_Kernel.Facts) (hPre_pi_2301_Kernel : Cert.Pre_pi_2301_Kernel.Facts) (hPre_pi_2310_Kernel : Cert.Pre_pi_2310_Kernel.Facts) (hPre_pi_3012_Kernel : Cert.Pre_pi_3012_Kernel.Facts) (hPre_pi_3021_Kernel : Cert.Pre_pi_3021_Kernel.Facts) (hPre_pi_3102_Kernel : Cert.Pre_pi_3102_Kernel.Facts) (hPre_pi_3120_Kernel : Cert.Pre_pi_3120_Kernel.Facts) (hPre_pi_3201_Kernel : Cert.Pre_pi_3201_Kernel.Facts) (hPre_pi_3210_Kernel : Cert.Pre_pi_3210_Kernel.Facts) (hPre_pi_0123_ReferenceIdeal : Cert.Pre_pi_0123_ReferenceIdeal.Facts) (hPre_pi_0132_ReferenceIdeal : Cert.Pre_pi_0132_ReferenceIdeal.Facts) (hPre_pi_0213_ReferenceIdeal : Cert.Pre_pi_0213_ReferenceIdeal.Facts) (hPre_pi_0231_ReferenceIdeal : Cert.Pre_pi_0231_ReferenceIdeal.Facts) (hPre_pi_0312_ReferenceIdeal : Cert.Pre_pi_0312_ReferenceIdeal.Facts) (hPre_pi_0321_ReferenceIdeal : Cert.Pre_pi_0321_ReferenceIdeal.Facts) (hPre_pi_1023_ReferenceIdeal : Cert.Pre_pi_1023_ReferenceIdeal.Facts) (hPre_pi_1032_ReferenceIdeal : Cert.Pre_pi_1032_ReferenceIdeal.Facts) (hPre_pi_1203_ReferenceIdeal : Cert.Pre_pi_1203_ReferenceIdeal.Facts) (hPre_pi_1230_ReferenceIdeal : Cert.Pre_pi_1230_ReferenceIdeal.Facts) (hPre_pi_1302_ReferenceIdeal : Cert.Pre_pi_1302_ReferenceIdeal.Facts) (hPre_pi_1320_ReferenceIdeal : Cert.Pre_pi_1320_ReferenceIdeal.Facts) (hPre_pi_2013_ReferenceIdeal : Cert.Pre_pi_2013_ReferenceIdeal.Facts) (hPre_pi_2031_ReferenceIdeal : Cert.Pre_pi_2031_ReferenceIdeal.Facts) (hPre_pi_2103_ReferenceIdeal : Cert.Pre_pi_2103_ReferenceIdeal.Facts) (hPre_pi_2130_ReferenceIdeal : Cert.Pre_pi_2130_ReferenceIdeal.Facts) (hPre_pi_2301_ReferenceIdeal : Cert.Pre_pi_2301_ReferenceIdeal.Facts) (hPre_pi_2310_ReferenceIdeal : Cert.Pre_pi_2310_ReferenceIdeal.Facts) (hPre_pi_3012_ReferenceIdeal : Cert.Pre_pi_3012_ReferenceIdeal.Facts) (hPre_pi_3021_ReferenceIdeal : Cert.Pre_pi_3021_ReferenceIdeal.Facts) (hPre_pi_3102_ReferenceIdeal : Cert.Pre_pi_3102_ReferenceIdeal.Facts) (hPre_pi_3120_ReferenceIdeal : Cert.Pre_pi_3120_ReferenceIdeal.Facts) (hPre_pi_3201_ReferenceIdeal : Cert.Pre_pi_3201_ReferenceIdeal.Facts) (hPre_pi_3210_ReferenceIdeal : Cert.Pre_pi_3210_ReferenceIdeal.Facts),
    quiescent_Kernel (hKernel := hKernel) (hPre_pi_0123_Kernel := hPre_pi_0123_Kernel)
    ∧ quiescent_Kernel_pre_pi_0132_Kernel (hKernel := hKernel) (hPre_pi_0132_Kernel := hPre_pi_0132_Kernel)
    ∧ quiescent_Kernel_pre_pi_0213_Kernel (hKernel := hKernel) (hPre_pi_0213_Kernel := hPre_pi_0213_Kernel)
    ∧ quiescent_Kernel_pre_pi_0231_Kernel (hKernel := hKernel) (hPre_pi_0231_Kernel := hPre_pi_0231_Kernel)
    ∧ quiescent_Kernel_pre_pi_0312_Kernel (hKernel := hKernel) (hPre_pi_0312_Kernel := hPre_pi_0312_Kernel)
    ∧ quiescent_Kernel_pre_pi_0321_Kernel (hKernel := hKernel) (hPre_pi_0321_Kernel := hPre_pi_0321_Kernel)
    ∧ quiescent_Kernel_pre_pi_1023_Kernel (hKernel := hKernel) (hPre_pi_1023_Kernel := hPre_pi_1023_Kernel)
    ∧ quiescent_Kernel_pre_pi_1032_Kernel (hKernel := hKernel) (hPre_pi_1032_Kernel := hPre_pi_1032_Kernel)
    ∧ quiescent_Kernel_pre_pi_1203_Kernel (hKernel := hKernel) (hPre_pi_1203_Kernel := hPre_pi_1203_Kernel)
    ∧ quiescent_Kernel_pre_pi_1230_Kernel (hKernel := hKernel) (hPre_pi_1230_Kernel := hPre_pi_1230_Kernel)
    ∧ quiescent_Kernel_pre_pi_1302_Kernel (hKernel := hKernel) (hPre_pi_1302_Kernel := hPre_pi_1302_Kernel)
    ∧ quiescent_Kernel_pre_pi_1320_Kernel (hKernel := hKernel) (hPre_pi_1320_Kernel := hPre_pi_1320_Kernel)
    ∧ quiescent_Kernel_pre_pi_2013_Kernel (hKernel := hKernel) (hPre_pi_2013_Kernel := hPre_pi_2013_Kernel)
    ∧ quiescent_Kernel_pre_pi_2031_Kernel (hKernel := hKernel) (hPre_pi_2031_Kernel := hPre_pi_2031_Kernel)
    ∧ quiescent_Kernel_pre_pi_2103_Kernel (hKernel := hKernel) (hPre_pi_2103_Kernel := hPre_pi_2103_Kernel)
    ∧ quiescent_Kernel_pre_pi_2130_Kernel (hKernel := hKernel) (hPre_pi_2130_Kernel := hPre_pi_2130_Kernel)
    ∧ quiescent_Kernel_pre_pi_2301_Kernel (hKernel := hKernel) (hPre_pi_2301_Kernel := hPre_pi_2301_Kernel)
    ∧ quiescent_Kernel_pre_pi_2310_Kernel (hKernel := hKernel) (hPre_pi_2310_Kernel := hPre_pi_2310_Kernel)
    ∧ quiescent_Kernel_pre_pi_3012_Kernel (hKernel := hKernel) (hPre_pi_3012_Kernel := hPre_pi_3012_Kernel)
    ∧ quiescent_Kernel_pre_pi_3021_Kernel (hKernel := hKernel) (hPre_pi_3021_Kernel := hPre_pi_3021_Kernel)
    ∧ quiescent_Kernel_pre_pi_3102_Kernel (hKernel := hKernel) (hPre_pi_3102_Kernel := hPre_pi_3102_Kernel)
    ∧ quiescent_Kernel_pre_pi_3120_Kernel (hKernel := hKernel) (hPre_pi_3120_Kernel := hPre_pi_3120_Kernel)
    ∧ quiescent_Kernel_pre_pi_3201_Kernel (hKernel := hKernel) (hPre_pi_3201_Kernel := hPre_pi_3201_Kernel)
    ∧ quiescent_Kernel_pre_pi_3210_Kernel (hKernel := hKernel) (hPre_pi_3210_Kernel := hPre_pi_3210_Kernel)
    ∧ quiescent_KernelIdeal (hKernelIdeal := hKernelIdeal) (hPre_pi_0123_Kernel := hPre_pi_0123_Kernel)
    ∧ quiescent_KernelIdeal_pre_pi_0132_Kernel (hKernelIdeal := hKernelIdeal) (hPre_pi_0132_Kernel := hPre_pi_0132_Kernel)
    ∧ quiescent_KernelIdeal_pre_pi_0213_Kernel (hKernelIdeal := hKernelIdeal) (hPre_pi_0213_Kernel := hPre_pi_0213_Kernel)
    ∧ quiescent_KernelIdeal_pre_pi_0231_Kernel (hKernelIdeal := hKernelIdeal) (hPre_pi_0231_Kernel := hPre_pi_0231_Kernel)
    ∧ quiescent_KernelIdeal_pre_pi_0312_Kernel (hKernelIdeal := hKernelIdeal) (hPre_pi_0312_Kernel := hPre_pi_0312_Kernel)
    ∧ quiescent_KernelIdeal_pre_pi_0321_Kernel (hKernelIdeal := hKernelIdeal) (hPre_pi_0321_Kernel := hPre_pi_0321_Kernel)
    ∧ quiescent_KernelIdeal_pre_pi_1023_Kernel (hKernelIdeal := hKernelIdeal) (hPre_pi_1023_Kernel := hPre_pi_1023_Kernel)
    ∧ quiescent_KernelIdeal_pre_pi_1032_Kernel (hKernelIdeal := hKernelIdeal) (hPre_pi_1032_Kernel := hPre_pi_1032_Kernel)
    ∧ quiescent_KernelIdeal_pre_pi_1203_Kernel (hKernelIdeal := hKernelIdeal) (hPre_pi_1203_Kernel := hPre_pi_1203_Kernel)
    ∧ quiescent_KernelIdeal_pre_pi_1230_Kernel (hKernelIdeal := hKernelIdeal) (hPre_pi_1230_Kernel := hPre_pi_1230_Kernel)
    ∧ quiescent_KernelIdeal_pre_pi_1302_Kernel (hKernelIdeal := hKernelIdeal) (hPre_pi_1302_Kernel := hPre_pi_1302_Kernel)
    ∧ quiescent_KernelIdeal_pre_pi_1320_Kernel (hKernelIdeal := hKernelIdeal) (hPre_pi_1320_Kernel := hPre_pi_1320_Kernel)
    ∧ quiescent_KernelIdeal_pre_pi_2013_Kernel (hKernelIdeal := hKernelIdeal) (hPre_pi_2013_Kernel := hPre_pi_2013_Kernel)
    ∧ quiescent_KernelIdeal_pre_pi_2031_Kernel (hKernelIdeal := hKernelIdeal) (hPre_pi_2031_Kernel := hPre_pi_2031_Kernel)
    ∧ quiescent_KernelIdeal_pre_pi_2103_Kernel (hKernelIdeal := hKernelIdeal) (hPre_pi_2103_Kernel := hPre_pi_2103_Kernel)
    ∧ quiescent_KernelIdeal_pre_pi_2130_Kernel (hKernelIdeal := hKernelIdeal) (hPre_pi_2130_Kernel := hPre_pi_2130_Kernel)
    ∧ quiescent_KernelIdeal_pre_pi_2301_Kernel (hKernelIdeal := hKernelIdeal) (hPre_pi_2301_Kernel := hPre_pi_2301_Kernel)
    ∧ quiescent_KernelIdeal_pre_pi_2310_Kernel (hKernelIdeal := hKernelIdeal) (hPre_pi_2310_Kernel := hPre_pi_2310_Kernel)
    ∧ quiescent_KernelIdeal_pre_pi_3012_Kernel (hKernelIdeal := hKernelIdeal) (hPre_pi_3012_Kernel := hPre_pi_3012_Kernel)
    ∧ quiescent_KernelIdeal_pre_pi_3021_Kernel (hKernelIdeal := hKernelIdeal) (hPre_pi_3021_Kernel := hPre_pi_3021_Kernel)
    ∧ quiescent_KernelIdeal_pre_pi_3102_Kernel (hKernelIdeal := hKernelIdeal) (hPre_pi_3102_Kernel := hPre_pi_3102_Kernel)
    ∧ quiescent_KernelIdeal_pre_pi_3120_Kernel (hKernelIdeal := hKernelIdeal) (hPre_pi_3120_Kernel := hPre_pi_3120_Kernel)
    ∧ quiescent_KernelIdeal_pre_pi_3201_Kernel (hKernelIdeal := hKernelIdeal) (hPre_pi_3201_Kernel := hPre_pi_3201_Kernel)
    ∧ quiescent_KernelIdeal_pre_pi_3210_Kernel (hKernelIdeal := hKernelIdeal) (hPre_pi_3210_Kernel := hPre_pi_3210_Kernel)
    ∧ quiescent_ReferenceIdeal (hReferenceIdeal := hReferenceIdeal)
    ∧ quiescent_ReferenceIdeal_pre_pi_0123_ReferenceIdeal (hReferenceIdeal := hReferenceIdeal) (hPre_pi_0123_ReferenceIdeal := hPre_pi_0123_ReferenceIdeal)
    ∧ quiescent_ReferenceIdeal_pre_pi_0132_ReferenceIdeal (hReferenceIdeal := hReferenceIdeal) (hPre_pi_0132_ReferenceIdeal := hPre_pi_0132_ReferenceIdeal)
    ∧ quiescent_ReferenceIdeal_pre_pi_0213_ReferenceIdeal (hReferenceIdeal := hReferenceIdeal) (hPre_pi_0213_ReferenceIdeal := hPre_pi_0213_ReferenceIdeal)
    ∧ quiescent_ReferenceIdeal_pre_pi_0231_ReferenceIdeal (hReferenceIdeal := hReferenceIdeal) (hPre_pi_0231_ReferenceIdeal := hPre_pi_0231_ReferenceIdeal)
    ∧ quiescent_ReferenceIdeal_pre_pi_0312_ReferenceIdeal (hReferenceIdeal := hReferenceIdeal) (hPre_pi_0312_ReferenceIdeal := hPre_pi_0312_ReferenceIdeal)
    ∧ quiescent_ReferenceIdeal_pre_pi_0321_ReferenceIdeal (hReferenceIdeal := hReferenceIdeal) (hPre_pi_0321_ReferenceIdeal := hPre_pi_0321_ReferenceIdeal)
    ∧ quiescent_ReferenceIdeal_pre_pi_1023_ReferenceIdeal (hReferenceIdeal := hReferenceIdeal) (hPre_pi_1023_ReferenceIdeal := hPre_pi_1023_ReferenceIdeal)
    ∧ quiescent_ReferenceIdeal_pre_pi_1032_ReferenceIdeal (hReferenceIdeal := hReferenceIdeal) (hPre_pi_1032_ReferenceIdeal := hPre_pi_1032_ReferenceIdeal)
    ∧ quiescent_ReferenceIdeal_pre_pi_1203_ReferenceIdeal (hReferenceIdeal := hReferenceIdeal) (hPre_pi_1203_ReferenceIdeal := hPre_pi_1203_ReferenceIdeal)
    ∧ quiescent_ReferenceIdeal_pre_pi_1230_ReferenceIdeal (hReferenceIdeal := hReferenceIdeal) (hPre_pi_1230_ReferenceIdeal := hPre_pi_1230_ReferenceIdeal)
    ∧ quiescent_ReferenceIdeal_pre_pi_1302_ReferenceIdeal (hReferenceIdeal := hReferenceIdeal) (hPre_pi_1302_ReferenceIdeal := hPre_pi_1302_ReferenceIdeal)
    ∧ quiescent_ReferenceIdeal_pre_pi_1320_ReferenceIdeal (hReferenceIdeal := hReferenceIdeal) (hPre_pi_1320_ReferenceIdeal := hPre_pi_1320_ReferenceIdeal)
    ∧ quiescent_ReferenceIdeal_pre_pi_2013_ReferenceIdeal (hReferenceIdeal := hReferenceIdeal) (hPre_pi_2013_ReferenceIdeal := hPre_pi_2013_ReferenceIdeal)
    ∧ quiescent_ReferenceIdeal_pre_pi_2031_ReferenceIdeal (hReferenceIdeal := hReferenceIdeal) (hPre_pi_2031_ReferenceIdeal := hPre_pi_2031_ReferenceIdeal)
    ∧ quiescent_ReferenceIdeal_pre_pi_2103_ReferenceIdeal (hReferenceIdeal := hReferenceIdeal) (hPre_pi_2103_ReferenceIdeal := hPre_pi_2103_ReferenceIdeal)
    ∧ quiescent_ReferenceIdeal_pre_pi_2130_ReferenceIdeal (hReferenceIdeal := hReferenceIdeal) (hPre_pi_2130_ReferenceIdeal := hPre_pi_2130_ReferenceIdeal)
    ∧ quiescent_ReferenceIdeal_pre_pi_2301_ReferenceIdeal (hReferenceIdeal := hReferenceIdeal) (hPre_pi_2301_ReferenceIdeal := hPre_pi_2301_ReferenceIdeal)
    ∧ quiescent_ReferenceIdeal_pre_pi_2310_ReferenceIdeal (hReferenceIdeal := hReferenceIdeal) (hPre_pi_2310_ReferenceIdeal := hPre_pi_2310_ReferenceIdeal)
    ∧ quiescent_ReferenceIdeal_pre_pi_3012_ReferenceIdeal (hReferenceIdeal := hReferenceIdeal) (hPre_pi_3012_ReferenceIdeal := hPre_pi_3012_ReferenceIdeal)
    ∧ quiescent_ReferenceIdeal_pre_pi_3021_ReferenceIdeal (hReferenceIdeal := hReferenceIdeal) (hPre_pi_3021_ReferenceIdeal := hPre_pi_3021_ReferenceIdeal)
    ∧ quiescent_ReferenceIdeal_pre_pi_3102_ReferenceIdeal (hReferenceIdeal := hReferenceIdeal) (hPre_pi_3102_ReferenceIdeal := hPre_pi_3102_ReferenceIdeal)
    ∧ quiescent_ReferenceIdeal_pre_pi_3120_ReferenceIdeal (hReferenceIdeal := hReferenceIdeal) (hPre_pi_3120_ReferenceIdeal := hPre_pi_3120_ReferenceIdeal)
    ∧ quiescent_ReferenceIdeal_pre_pi_3201_ReferenceIdeal (hReferenceIdeal := hReferenceIdeal) (hPre_pi_3201_ReferenceIdeal := hPre_pi_3201_ReferenceIdeal)
    ∧ quiescent_ReferenceIdeal_pre_pi_3210_ReferenceIdeal (hReferenceIdeal := hReferenceIdeal) (hPre_pi_3210_ReferenceIdeal := hPre_pi_3210_ReferenceIdeal)
    ∧ preserves_Kernel_KernelIdeal
    ∧ algebraic_KernelIdeal_ReferenceIdeal (hKernelIdeal := hKernelIdeal) (hReferenceIdeal := hReferenceIdeal) (hPre_pi_0123_Kernel := hPre_pi_0123_Kernel)
    ∧ algebraic_KernelIdeal_ReferenceIdeal_pre_pi_0132_Kernel (hKernelIdeal := hKernelIdeal) (hReferenceIdeal := hReferenceIdeal) (hPre_pi_0132_Kernel := hPre_pi_0132_Kernel)
    ∧ algebraic_KernelIdeal_ReferenceIdeal_pre_pi_0213_Kernel (hKernelIdeal := hKernelIdeal) (hReferenceIdeal := hReferenceIdeal) (hPre_pi_0213_Kernel := hPre_pi_0213_Kernel)
    ∧ algebraic_KernelIdeal_ReferenceIdeal_pre_pi_0231_Kernel (hKernelIdeal := hKernelIdeal) (hReferenceIdeal := hReferenceIdeal) (hPre_pi_0231_Kernel := hPre_pi_0231_Kernel)
    ∧ algebraic_KernelIdeal_ReferenceIdeal_pre_pi_0312_Kernel (hKernelIdeal := hKernelIdeal) (hReferenceIdeal := hReferenceIdeal) (hPre_pi_0312_Kernel := hPre_pi_0312_Kernel)
    ∧ algebraic_KernelIdeal_ReferenceIdeal_pre_pi_0321_Kernel (hKernelIdeal := hKernelIdeal) (hReferenceIdeal := hReferenceIdeal) (hPre_pi_0321_Kernel := hPre_pi_0321_Kernel)
    ∧ algebraic_KernelIdeal_ReferenceIdeal_pre_pi_1023_Kernel (hKernelIdeal := hKernelIdeal) (hReferenceIdeal := hReferenceIdeal) (hPre_pi_1023_Kernel := hPre_pi_1023_Kernel)
    ∧ algebraic_KernelIdeal_ReferenceIdeal_pre_pi_1032_Kernel (hKernelIdeal := hKernelIdeal) (hReferenceIdeal := hReferenceIdeal) (hPre_pi_1032_Kernel := hPre_pi_1032_Kernel)
    ∧ algebraic_KernelIdeal_ReferenceIdeal_pre_pi_1203_Kernel (hKernelIdeal := hKernelIdeal) (hReferenceIdeal := hReferenceIdeal) (hPre_pi_1203_Kernel := hPre_pi_1203_Kernel)
    ∧ algebraic_KernelIdeal_ReferenceIdeal_pre_pi_1230_Kernel (hKernelIdeal := hKernelIdeal) (hReferenceIdeal := hReferenceIdeal) (hPre_pi_1230_Kernel := hPre_pi_1230_Kernel)
    ∧ algebraic_KernelIdeal_ReferenceIdeal_pre_pi_1302_Kernel (hKernelIdeal := hKernelIdeal) (hReferenceIdeal := hReferenceIdeal) (hPre_pi_1302_Kernel := hPre_pi_1302_Kernel)
    ∧ algebraic_KernelIdeal_ReferenceIdeal_pre_pi_1320_Kernel (hKernelIdeal := hKernelIdeal) (hReferenceIdeal := hReferenceIdeal) (hPre_pi_1320_Kernel := hPre_pi_1320_Kernel)
    ∧ algebraic_KernelIdeal_ReferenceIdeal_pre_pi_2013_Kernel (hKernelIdeal := hKernelIdeal) (hReferenceIdeal := hReferenceIdeal) (hPre_pi_2013_Kernel := hPre_pi_2013_Kernel)
    ∧ algebraic_KernelIdeal_ReferenceIdeal_pre_pi_2031_Kernel (hKernelIdeal := hKernelIdeal) (hReferenceIdeal := hReferenceIdeal) (hPre_pi_2031_Kernel := hPre_pi_2031_Kernel)
    ∧ algebraic_KernelIdeal_ReferenceIdeal_pre_pi_2103_Kernel (hKernelIdeal := hKernelIdeal) (hReferenceIdeal := hReferenceIdeal) (hPre_pi_2103_Kernel := hPre_pi_2103_Kernel)
    ∧ algebraic_KernelIdeal_ReferenceIdeal_pre_pi_2130_Kernel (hKernelIdeal := hKernelIdeal) (hReferenceIdeal := hReferenceIdeal) (hPre_pi_2130_Kernel := hPre_pi_2130_Kernel)
    ∧ algebraic_KernelIdeal_ReferenceIdeal_pre_pi_2301_Kernel (hKernelIdeal := hKernelIdeal) (hReferenceIdeal := hReferenceIdeal) (hPre_pi_2301_Kernel := hPre_pi_2301_Kernel)
    ∧ algebraic_KernelIdeal_ReferenceIdeal_pre_pi_2310_Kernel (hKernelIdeal := hKernelIdeal) (hReferenceIdeal := hReferenceIdeal) (hPre_pi_2310_Kernel := hPre_pi_2310_Kernel)
    ∧ algebraic_KernelIdeal_ReferenceIdeal_pre_pi_3012_Kernel (hKernelIdeal := hKernelIdeal) (hReferenceIdeal := hReferenceIdeal) (hPre_pi_3012_Kernel := hPre_pi_3012_Kernel)
    ∧ algebraic_KernelIdeal_ReferenceIdeal_pre_pi_3021_Kernel (hKernelIdeal := hKernelIdeal) (hReferenceIdeal := hReferenceIdeal) (hPre_pi_3021_Kernel := hPre_pi_3021_Kernel)
    ∧ algebraic_KernelIdeal_ReferenceIdeal_pre_pi_3102_Kernel (hKernelIdeal := hKernelIdeal) (hReferenceIdeal := hReferenceIdeal) (hPre_pi_3102_Kernel := hPre_pi_3102_Kernel)
    ∧ algebraic_KernelIdeal_ReferenceIdeal_pre_pi_3120_Kernel (hKernelIdeal := hKernelIdeal) (hReferenceIdeal := hReferenceIdeal) (hPre_pi_3120_Kernel := hPre_pi_3120_Kernel)
    ∧ algebraic_KernelIdeal_ReferenceIdeal_pre_pi_3201_Kernel (hKernelIdeal := hKernelIdeal) (hReferenceIdeal := hReferenceIdeal) (hPre_pi_3201_Kernel := hPre_pi_3201_Kernel)
    ∧ algebraic_KernelIdeal_ReferenceIdeal_pre_pi_3210_Kernel (hKernelIdeal := hKernelIdeal) (hReferenceIdeal := hReferenceIdeal) (hPre_pi_3210_Kernel := hPre_pi_3210_Kernel)
-- ==== Pre_pi_0123_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0123_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0132_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0132_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0213_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0213_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0231_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0231_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0312_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0312_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0321_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_0321_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1023_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1023_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1032_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1032_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1203_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1203_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1230_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1230_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1302_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1302_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1320_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_1320_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2013_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2013_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2031_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2031_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2103_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2103_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2130_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2130_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2301_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2301_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2310_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_2310_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3012_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3012_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3021_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3021_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3102_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3102_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3120_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3120_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3201_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3201_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3210_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_3210_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x512x512 : Shape := ⟨3, ![1, 512, 512]⟩
abbrev S4 : Shape := ⟨1, ![4]⟩
abbrev S4x128x512 : Shape := ⟨3, ![4, 128, 512]⟩
abbrev S1 : Shape := ⟨1, ![1]⟩
abbrev S1x128x512 : Shape := ⟨3, ![1, 128, 512]⟩
abbrev S128x512 : Shape := ⟨2, ![128, 512]⟩
abbrev S_ : Shape := ⟨0, ![]⟩

abbrev nBuf : Space → Nat
  | .hbm => 3
  | .vmem => 4
  | .smem => 1
  | _ => 0

abbrev bufTy : (tb : Table) → Fin (tcTables nBuf tb) → BufTy
  | .hbm, ⟨0, _⟩ => ⟨S1x512x512, .f32⟩
  | .hbm, ⟨1, _⟩ => ⟨S4, .i32⟩
  | .hbm, ⟨2, _⟩ => ⟨S1x512x512, .f32⟩
  | .local _ .vmem, ⟨0, _⟩ => ⟨S1x512x512, .f32⟩
  | .local _ .vmem, ⟨1, _⟩ => ⟨S1x512x512, .f32⟩
  | .local _ .vmem, ⟨2, _⟩ => ⟨S4x128x512, .bf16⟩
  | .local _ .vmem, ⟨3, _⟩ => ⟨S4x128x512, .bf16⟩
  | .local _ .smem, ⟨0, _⟩ => ⟨S4, .i32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : Index := Scalar.indexCast v5
  ![v9.toNat]
def k0_dev1 (d0 : Dev nD) (v11 : BitVec 32) (v14 : BitVec 32) (v17 : BitVec 32) (v20 : BitVec 32) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v48 : BitVec 32 := Scalar.muli v2 c16_i32_27
  let v49 : BitVec 32 := Scalar.addi c0_i32_28 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_29 : BitVec 32 := 4#32
  let v50 : BitVec 32 := Scalar.muli v22 c4_i32_29
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v52 : BitVec 32 := Scalar.muli v8 c1_i32_30
  let v53 : BitVec 32 := Scalar.addi v51 v52
  v53.toNat

def k0_chk1 (d0 : Dev nD) (v11 : BitVec 32) (v14 : BitVec 32) (v17 : BitVec 32) (v20 : BitVec 32) : Prop :=
  ((k0_dev1 d0 v11 v14 v17 v20) < nD)
theorem k0_dev1_lt : ∀ (d0 : Dev nD) (v11 : BitVec 32) (v14 : BitVec 32) (v17 : BitVec 32) (v20 : BitVec 32) (k0_hw1 : k0_chk1 d0 v11 v14 v17 v20), (k0_dev1 d0 v11 v14 v17 v20) < nD := fun d0 v11 v14 v17 v20 k0_hw1 => k0_hw1

def k0_dev2 (d0 : Dev nD) (v10 : BitVec 32) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v54 : BitVec 32 := Scalar.muli v2 c16_i32_36
  let v55 : BitVec 32 := Scalar.addi c0_i32_37 v54
  let c4_i32_38 : BitVec 32 := 4#32
  let v56 : BitVec 32 := Scalar.muli v10 c4_i32_38
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v58 : BitVec 32 := Scalar.muli v8 c1_i32_39
  let v59 : BitVec 32 := Scalar.addi v57 v58
  v59.toNat

def k0_dev3 (d0 : Dev nD) (v10 : BitVec 32) : Nat :=
  let c0_i32_49 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_48 : BitVec 32 := 16#32
  let v68 : BitVec 32 := Scalar.muli v2 c16_i32_48
  let v69 : BitVec 32 := Scalar.addi c0_i32_49 v68
  let c4_i32_50 : BitVec 32 := 4#32
  let v70 : BitVec 32 := Scalar.muli v10 c4_i32_50
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v72 : BitVec 32 := Scalar.muli v8 c1_i32_51
  let v73 : BitVec 32 := Scalar.addi v71 v72
  v73.toNat
def k0_dev4 (d0 : Dev nD) (v10 : BitVec 32) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_60 : BitVec 32 := 16#32
  let v82 : BitVec 32 := Scalar.muli v2 c16_i32_60
  let v83 : BitVec 32 := Scalar.addi c0_i32_61 v82
  let c4_i32_62 : BitVec 32 := 4#32
  let v84 : BitVec 32 := Scalar.muli v10 c4_i32_62
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v86 : BitVec 32 := Scalar.muli v8 c1_i32_63
  let v87 : BitVec 32 := Scalar.addi v85 v86
  v87.toNat
def k0_dev5 (d0 : Dev nD) (v10 : BitVec 32) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v96 : BitVec 32 := Scalar.muli v2 c16_i32_72
  let v97 : BitVec 32 := Scalar.addi c0_i32_73 v96
  let c4_i32_74 : BitVec 32 := 4#32
  let v98 : BitVec 32 := Scalar.muli v10 c4_i32_74
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v100 : BitVec 32 := Scalar.muli v8 c1_i32_75
  let v101 : BitVec 32 := Scalar.addi v99 v100
  v101.toNat

def k0_chk2 (d0 : Dev nD) (v10 : BitVec 32) : Prop :=
  ((k0_dev2 d0 v10) < nD) ∧
  ((k0_dev3 d0 v10) < nD) ∧
  ((k0_dev4 d0 v10) < nD) ∧
  ((k0_dev5 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev3_lt : ∀ (d0 : Dev nD) (v10 : BitVec 32) (k0_hw2 : k0_chk2 d0 v10), (k0_dev3 d0 v10) < nD := fun d0 v10 k0_hw2 => k0_hw2.2.1
theorem k0_dev4_lt : ∀ (d0 : Dev nD) (v10 : BitVec 32) (k0_hw2 : k0_chk2 d0 v10), (k0_dev4 d0 v10) < nD := fun d0 v10 k0_hw2 => k0_hw2.2.2.1
theorem k0_dev5_lt : ∀ (d0 : Dev nD) (v10 : BitVec 32) (k0_hw2 : k0_chk2 d0 v10), (k0_dev5 d0 v10) < nD := fun d0 v10 k0_hw2 => k0_hw2.2.2.2

abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x512 : Shape := ⟨3, ![4, 512, 512]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Peers.lean ====
/- The devices a permutation of the four `y` coordinates joins, and the device words the kernel computes.
   Device `c` of the 2 x 4 x 4 mesh is `16 a + 4 y + z`. Under a permutation `p` of the `y` coordinates it sends its block
   to `dst p c = 16 a + 4 p(y) + z` and receives the block of `src p c`. -/
module

public import proofs.«01_k».proof.Proof.Gen.KernelIdeal
public import Mathlib.GroupTheory.Perm.Basic

@[expose] public section

noncomputable section

namespace Cert.Permute

open Cert.KernelIdeal Cert.KernelIdeal.Gen
open Idealize.ShloMosaic

/-- A permutation of the `y` axis. -/
abbrev YPerm : Type := Equiv.Perm (Fin 4)

/-- The `y` coordinate of a device. -/
def yOf (c : Dev nD) : Fin 4 := ⟨c.val / 4 % 4, Nat.mod_lt _ (by decide)⟩

/-- The device on `c`'s row whose `y` coordinate is `y`. -/
def atY (c : Dev nD) (y : Fin 4) : Dev nD :=
  ⟨16 * (c.val / 16) + 4 * y.val + c.val % 4, by have h : c.val < 32 := c.isLt; have := y.isLt; show _ < 32; omega⟩

theorem yOf_atY (c : Dev nD) (y : Fin 4) : yOf (atY c y) = y :=
  Fin.ext (by have := y.isLt; show (16 * (c.val / 16) + 4 * y.val + c.val % 4) / 4 % 4 = y.val; omega)

theorem atY_atY (c : Dev nD) (y y' : Fin 4) : atY (atY c y) y' = atY c y' :=
  Fin.ext (by
    have := y.isLt
    show 16 * ((16 * (c.val / 16) + 4 * y.val + c.val % 4) / 16) + 4 * y'.val + (16 * (c.val / 16) + 4 * y.val + c.val % 4) % 4
      = 16 * (c.val / 16) + 4 * y'.val + c.val % 4
    omega)

theorem atY_yOf (c : Dev nD) : atY c (yOf c) = c :=
  Fin.ext (by show 16 * (c.val / 16) + 4 * (c.val / 4 % 4) + c.val % 4 = c.val; omega)

/-- Where device `c` sends its block. -/
def dst (p : YPerm) (c : Dev nD) : Dev nD := atY c (p (yOf c))

/-- Whose block device `c` receives. -/
def src (p : YPerm) (c : Dev nD) : Dev nD := atY c (p.symm (yOf c))

theorem src_dst (p : YPerm) (c : Dev nD) : src p (dst p c) = c := by
  unfold src dst; rw [yOf_atY, atY_atY, Equiv.symm_apply_apply, atY_yOf]

theorem dst_src (p : YPerm) (c : Dev nD) : dst p (src p c) = c := by
  unfold src dst; rw [yOf_atY, atY_atY, Equiv.apply_symm_apply, atY_yOf]

/-- The two maps are one bijection of the devices. -/
def around (p : YPerm) : Dev nD ≃ Dev nD := ⟨dst p, src p, src_dst p, dst_src p⟩

theorem dst_eq_iff {p : YPerm} {d c : Dev nD} : dst p d = c ↔ d = src p c :=
  ⟨fun h => by rw [← h, src_dst], fun h => by rw [h, dst_src]⟩

theorem src_eq_iff {p : YPerm} {d c : Dev nD} : src p d = c ↔ d = dst p c :=
  ⟨fun h => by rw [← h, dst_src], fun h => by rw [h, src_dst]⟩

/-! ## The words -/

/-- A coordinate as the word a table holds. -/
abbrev yWord (y : Fin 4) : BitVec 32 := BitVec.ofNat 32 y.val

theorem dev_send (c : Dev nD) (y : Fin 4) :
    k0_dev2 c (yWord y) = (atY c y).val ∧ k0_dev3 c (yWord y) = (atY c y).val
      ∧ k0_dev4 c (yWord y) = (atY c y).val ∧ k0_dev5 c (yWord y) = (atY c y).val := by
  revert c y; decide +kernel

/-- Under the table's word for its own coordinate, a device's four copies address a device of the mesh. -/
theorem chk_send (c : Dev nD) (y : Fin 4) : k0_chk2 c (yWord y) := by
  obtain ⟨h2, h3, h4, h5⟩ := dev_send c y
  exact ⟨h2 ▸ (atY c y).isLt, h3 ▸ (atY c y).isLt, h4 ▸ (atY c y).isLt, h5 ▸ (atY c y).isLt⟩

/-- The place of `y` among four coordinates, the last one that matches: what the kernel's chain of selects computes. -/
def place (y y0 y1 y2 y3 : Fin 4) : Fin 4 := if y3 = y then 3 else if y2 = y then 2 else if y1 = y then 1 else 0

theorem dev_ready (c : Dev nD) (y0 y1 y2 y3 : Fin 4) (h : y0 = yOf c ∨ y1 = yOf c ∨ y2 = yOf c ∨ y3 = yOf c) :
    k0_dev1 c (yWord y0) (yWord y1) (yWord y2) (yWord y3) = (atY c (place (yOf c) y0 y1 y2 y3)).val := by
  revert c y0 y1 y2 y3; decide +kernel

theorem place_perm (p : YPerm) (y : Fin 4) : place y (p 0) (p 1) (p 2) (p 3) = p.symm y := by
  unfold place
  split_ifs with h3 h2 h1
  · exact ((Equiv.symm_apply_eq p).mpr h3.symm).symm
  · exact ((Equiv.symm_apply_eq p).mpr h2.symm).symm
  · exact ((Equiv.symm_apply_eq p).mpr h1.symm).symm
  · obtain ⟨i, rfl⟩ := p.surjective y
    rw [Equiv.symm_apply_apply]
    fin_cases i
    · rfl
    · exact absurd rfl h1
    · exact absurd rfl h2
    · exact absurd rfl h3

/-- The table of a permutation makes a device's signal address the device it receives from. -/
theorem dev_ready_perm (p : YPerm) (c : Dev nD) :
    k0_dev1 c (yWord (p 0)) (yWord (p 1)) (yWord (p 2)) (yWord (p 3)) = (src p c).val := by
  rw [dev_ready c, place_perm]; rfl
  obtain ⟨i, hi⟩ := p.surjective (yOf c)
  fin_cases i
  · exact .inl hi
  · exact .inr (.inl hi)
  · exact .inr (.inr (.inl hi))
  · exact .inr (.inr (.inr hi))

end Cert.Permute

end
-- ==== Proof.Chunks.lean ====
/- The kernel's two buffers of four chunks, as regions and as contents: each row of 128 lines of `x` is one chunk, rounded
   to bf16 on its way out (`wire`) and widened again on its way into the result (`unwire`). -/
module

public import proofs.«01_k».proof.Proof.Peers
public import proofs.«01_k».proof.Proof.Gen.KernelIdeal.Skeleton
public import proofs.«01_k».proof.Proof.Gen.KernelIdeal.Launch
public import Idealize.ShloMosaic.Lib.ViewIndex
public import Idealize.ShloMosaic.Lib.Pipeline.Value
public import Idealize.ShloMosaic.Lib.Tactic

@[expose] public section

noncomputable section

namespace Cert.Permute

open Cert.KernelIdeal Cert.KernelIdeal.Gen
open Idealize.ShloMosaic Idealize.ShloMosaic.TcCoe

variable {F : FTy → Type} [FloatOps F]

/-! ## Regions -/

theorem chunk_inb (k : Fin 4) : ∀ a, (![k.val, 0, 0] : Fin 3 → Nat) a + S1x128x512.size a ≤ S4x128x512.size a := by
  revert k; decide
theorem rows_inb (k : Fin 4) : ∀ a, (![0, 128 * k.val, 0] : Fin 3 → Nat) a + S1x128x512.size a ≤ S1x512x512.size a := by
  revert k; decide
theorem sem_inb (k : Fin 4) : ∀ a, (![k.val] : Fin 1 → Nat) a + S1.size a ≤ S4.size a := by
  revert k; decide

/-- Chunk `k` of a buffer of four chunks. -/
abbrev chunk (k : Fin 4) : Rect S4x128x512 := Rect.unit (s := S4x128x512) ![k.val, 0, 0] S1x128x512.size (chunk_inb k)
/-- The 128 lines of a block of 512 that make chunk `k`. -/
abbrev rows (k : Fin 4) : Rect S1x512x512 := Rect.unit (s := S1x512x512) ![0, 128 * k.val, 0] S1x128x512.size (rows_inb k)

/-- The staged block of `x`, the staged table, the staged result; the buffer sent from and the buffer received into. -/
abbrev xM : Memref sig .tc .vmem S1x512x512 .f32 := Memref.whole cc0_stg0_0
abbrev tM : Memref sig .tc .smem S4 .i32 := Memref.whole cc0_stg1_0
abbrev oM : Memref sig .tc .vmem S1x512x512 .f32 := Memref.whole cc0_stg2_0
abbrev outM : Memref sig .tc .vmem S4x128x512 .bf16 := Memref.whole cc0_scratch0
abbrev inM : Memref sig .tc .vmem S4x128x512 .bf16 := Memref.whole cc0_scratch1

/-- Chunk `k` of each, as the copies name it. -/
abbrev outC (k : Fin 4) : Memref sig .tc .vmem S128x512 .bf16 :=
  (outM.slice (chunk k) (fun _ => rfl)).squeeze S128x512 squeezes_S1x128x512_S128x512
abbrev inC (k : Fin 4) : Memref sig .tc .vmem S128x512 .bf16 :=
  (inM.slice (chunk k) (fun _ => rfl)).squeeze S128x512 squeezes_S1x128x512_S128x512

theorem outC_set (k : Fin 4) : (outC k).view.set = (chunk k).set :=
  (View.set_reshape _ _).trans (View.set_slice_whole _ _)
theorem inC_set (k : Fin 4) : (inC k).view.set = (chunk k).set :=
  (View.set_reshape _ _).trans (View.set_slice_whole _ _)

theorem mem_chunk {k : Fin 4} {i : S4x128x512.Idx} : i ∈ (chunk k).set ↔ (i 0).val = k.val := by
  rw [Rect.mem_set_unit]
  constructor
  · intro h
    have h0 : k.val ≤ (i 0).val ∧ (i 0).val < k.val + 1 := h 0
    omega
  · intro h a
    have h1 : (i 1).val < 128 := (i 1).isLt
    have h2 : (i 2).val < 512 := (i 2).isLt
    fin_cases a
    · constructor
      · show k.val ≤ (i 0).val; omega
      · show (i 0).val < k.val + 1; omega
    · exact ⟨Nat.zero_le _, by show (i 1).val < 0 + 128; omega⟩
    · exact ⟨Nat.zero_le _, by show (i 2).val < 0 + 512; omega⟩

theorem mem_rows {k : Fin 4} {i : S1x512x512.Idx} : i ∈ (rows k).set ↔ (i 1).val / 128 = k.val := by
  rw [Rect.mem_set_unit]
  constructor
  · intro h
    have h1 : 128 * k.val ≤ (i 1).val ∧ (i 1).val < 128 * k.val + 128 := h 1
    omega
  · intro h a
    have h0 : (i 0).val < 1 := (i 0).isLt
    have h2 : (i 2).val < 512 := (i 2).isLt
    fin_cases a
    · exact ⟨Nat.zero_le _, by show (i 0).val < 0 + 1; omega⟩
    · constructor
      · show 128 * k.val ≤ (i 1).val; omega
      · show (i 1).val < 128 * k.val + 128; omega
    · exact ⟨Nat.zero_le _, by show (i 2).val < 0 + 512; omega⟩

theorem chunk_disjoint {k k' : Fin 4} (h : k ≠ k') : Disjoint (chunk k).set (chunk k').set :=
  Finset.disjoint_left.mpr fun _ hi hi' => h (Fin.ext ((mem_chunk.mp hi).symm.trans (mem_chunk.mp hi')))

theorem chunk_cover : Finset.univ.biUnion (fun k : Fin 4 => (chunk k).set) = Finset.univ :=
  Finset.eq_univ_of_forall fun i => Finset.mem_biUnion.mpr ⟨i 0, Finset.mem_univ _, mem_chunk.mpr rfl⟩

/-! ## Contents -/

/-- The place in a block of 512 lines of a place in four chunks of 128, and back. -/
def line (i : S4x128x512.Idx) : S1x512x512.Idx := fun
  | ⟨0, _⟩ => ⟨0, Nat.one_pos⟩
  | ⟨1, _⟩ => ⟨128 * (i 0).val + (i 1).val, by
      have h0 : (i 0).val < 4 := (i 0).isLt; have h1 : (i 1).val < 128 := (i 1).isLt; show _ < 512; omega⟩
  | ⟨2, _⟩ => ⟨(i 2).val, (i 2).isLt⟩
def cut (i : S1x512x512.Idx) : S4x128x512.Idx := fun
  | ⟨0, _⟩ => ⟨(i 1).val / 128, by have h1 : (i 1).val < 512 := (i 1).isLt; show _ < 4; omega⟩
  | ⟨1, _⟩ => ⟨(i 1).val % 128, Nat.mod_lt _ (by decide)⟩
  | ⟨2, _⟩ => ⟨(i 2).val, (i 2).isLt⟩

theorem line_cut (i : S1x512x512.Idx) : line (cut i) = i := by
  refine Shape.idx3_ext ?_ ?_ rfl
  · have h0 : (i 0).val < 1 := (i 0).isLt
    show 0 = (i 0).val; omega
  · show 128 * ((i 1).val / 128) + (i 1).val % 128 = (i 1).val; omega

/-- What a device sends: its block rounded to bf16, as four chunks. -/
def wire (X : S1x512x512.Idx → Elt F .f32) : S4x128x512.Idx → Elt F .bf16 :=
  truncf .bf16 (fun i : S4x128x512.Idx => X (line i)) bitsLt_bf16_f32

/-- What a device makes of four chunks received: one block, widened to f32. -/
def unwire (W : S4x128x512.Idx → Elt F .bf16) : S1x512x512.Idx → Elt F .f32 :=
  extf .f32 (fun i : S1x512x512.Idx => W (cut i)) bitsLt_bf16_f32

theorem emb_val {s : Shape} (off size : Fin s.rank → Nat) (inb) (x : (Rect.unit (s := s) off size inb).shape.Idx) (a : Fin s.rank) :
    ((Rect.unit (s := s) off size inb).emb x a).val = off a + (x a).val := by
  show off a + 1 * (x a).val = _
  rw [Nat.one_mul]

theorem line_chunk (k : Fin 4) (x : S1x128x512.Idx) : line ((chunk k).emb x) = (rows k).emb x := by
  have h0 : (x 0).val < 1 := (x 0).isLt
  refine Shape.idx3_ext ?_ ?_ ?_
  · rw [emb_val]; show 0 = 0 + (x 0).val; omega
  · rw [emb_val]
    show 128 * ((chunk k).emb x 0).val + ((chunk k).emb x 1).val = 128 * k.val + (x 1).val
    rw [emb_val, emb_val]
    show 128 * (k.val + (x 0).val) + (0 + (x 1).val) = _
    omega
  · rw [emb_val]
    show ((chunk k).emb x 2).val = _
    rw [emb_val]; rfl

theorem cut_rows (k : Fin 4) (x : S1x128x512.Idx) : cut ((rows k).emb x) = (chunk k).emb x := by
  have h0 : (x 0).val < 1 := (x 0).isLt
  have h1 : (x 1).val < 128 := (x 1).isLt
  have e1 : ((rows k).emb x 1).val = 128 * k.val + (x 1).val := emb_val _ _ _ _ _
  refine Shape.idx3_ext ?_ ?_ ?_
  · rw [emb_val]
    show ((rows k).emb x 1).val / 128 = k.val + (x 0).val
    rw [e1]; omega
  · rw [emb_val]
    show ((rows k).emb x 1).val % 128 = 0 + (x 1).val
    rw [e1]; omega
  · rw [emb_val]
    show ((rows k).emb x 2).val = _
    rw [emb_val]; rfl

/-! ## The payloads of the stores: two shape casts that cancel around one conversion -/

theorem pay_narrow (v : Vec F S1x128x512 .f32) :
    k0_pay1 v = truncf .bf16 v bitsLt_bf16_f32 ∧ k0_pay3 (k0_pay2 v) = truncf .bf16 v bitsLt_bf16_f32
      ∧ k0_pay4 v = truncf .bf16 v bitsLt_bf16_f32 ∧ k0_pay5 v = truncf .bf16 v bitsLt_bf16_f32 := by
  have h : (truncf .bf16 (shapeCast S1x128x512 (shapeCast S128x512 v shapeCasts_S1x128x512_S128x512) shapeCasts_S128x512_S1x128x512) bitsLt_bf16_f32
      : FVec F S1x128x512 .bf16) = truncf .bf16 v bitsLt_bf16_f32 := by rw [shapeCast_shapeCast]
  exact ⟨h, h, h, h⟩

theorem pay_widen (v : Vec F S1x128x512 .bf16) :
    k0_pay6 v = extf .f32 v bitsLt_bf16_f32 ∧ k0_pay7 v = extf .f32 v bitsLt_bf16_f32
      ∧ k0_pay8 v = extf .f32 v bitsLt_bf16_f32 ∧ k0_pay9 v = extf .f32 v bitsLt_bf16_f32 := by
  have h : (extf .f32 (shapeCast S1x128x512 (shapeCast S128x512 v shapeCasts_S1x128x512_S128x512) shapeCasts_S128x512_S1x128x512) bitsLt_bf16_f32
      : FVec F S1x128x512 .f32) = extf .f32 v bitsLt_bf16_f32 := by rw [shapeCast_shapeCast]
  exact ⟨h, h, h, h⟩

/-! ## The stores, element by element -/

theorem exists_of_mem {s : Shape} {r : Rect s} {i : s.Idx} (h : i ∈ r.set) : ∃ x : r.shape.Idx, r.emb x = i := by
  rw [← Rect.map_emb_univ] at h
  obtain ⟨x, -, e⟩ := Finset.mem_map.mp h
  exact ⟨x, e⟩

/-- A store through a rectangle of a whole buffer, element by element: `g` on the rectangle if the payload is `g` there. -/
theorem store_apply {b : Ref sig .tc} {r : Rect b.ty.shape} {f g : b.ty.Contents (Elt F)} {w : r.shape.Idx → Elt F b.ty.elt}
    (hw : ∀ x, w x = g (r.emb x)) (p : b.ty.shape.Idx → Prop) [DecidablePred p] (hp : ∀ i, i ∈ r.set ↔ p i) :
    ((View.whole b).slice r).write (Elt F) f w Finset.univ = fun i => if p i then g i else f i := by
  funext i
  by_cases h : p i
  · refine Eq.trans ?_ (if_pos h).symm
    obtain ⟨x, rfl⟩ := exists_of_mem ((hp i).mpr h)
    exact (((View.whole b).slice r).write_emb_of_mem f w (Finset.mem_univ x)).trans (hw x)
  · refine Eq.trans ?_ (if_neg h).symm
    exact View.write_of_not_mem f _ _ (fun hi => h ((hp i).mp (by rwa [View.setOn_univ, View.set_slice_whole] at hi)))

/-- A buffer of chunks after chunk `k` of `X` has been stored: `X` rounded on the chunk, as before elsewhere. -/
theorem store_chunk (k : Fin 4) (X : S1x512x512.Idx → Elt F .f32) (f : S4x128x512.Idx → Elt F .bf16) :
    (outM.access (chunk k) : View sig .tc _ _ _).write (Elt F) f
        (truncf .bf16 (xM.view.readAt (Elt F) (rows k).toLoadRect X) bitsLt_bf16_f32) Finset.univ
      = fun i : S4x128x512.Idx => if (i 0).val = k.val then wire X i else f i :=
  store_apply (b := cc0_scratch0) (r := chunk k) (g := wire X)
    (fun x => (congrArg (fun j => FloatOps.truncf .bf16 bitsLt_bf16_f32 (X j)) (line_chunk k x)).symm) _ (fun _ => mem_chunk)

/-- Four chunks stored, the buffer holds all of `X`. -/
theorem stored_all (X : S1x512x512.Idx → Elt F .f32) (f : S4x128x512.Idx → Elt F .bf16) :
    (fun i : S4x128x512.Idx => if (i 0).val = (3 : Fin 4).val then wire X i else if (i 0).val = (2 : Fin 4).val then wire X i
      else if (i 0).val = (1 : Fin 4).val then wire X i else if (i 0).val = (0 : Fin 4).val then wire X i else f i) = wire X := by
  funext i
  have h0 : (i 0).val < 4 := (i 0).isLt
  have h : (i 0).val = 3 ∨ (i 0).val = 2 ∨ (i 0).val = 1 ∨ (i 0).val = 0 := by omega
  rcases h with h | h | h | h <;> simp only [h] <;> rfl

/-- The result after the lines of chunk `k` have been stored. -/
theorem store_rows (k : Fin 4) (W : S4x128x512.Idx → Elt F .bf16) (f : S1x512x512.Idx → Elt F .f32) :
    (oM.access (rows k) : View sig .tc _ _ _).write (Elt F) f
        (extf .f32 (inM.view.readAt (Elt F) (chunk k).toLoadRect W) bitsLt_bf16_f32) Finset.univ
      = fun i : S1x512x512.Idx => if (i 1).val / 128 = k.val then unwire W i else f i :=
  store_apply (b := cc0_stg2_0) (r := rows k) (g := unwire W)
    (fun x => (congrArg (fun j => FloatOps.extf .f32 bitsLt_bf16_f32 (W j)) (cut_rows k x)).symm) _ (fun _ => mem_rows)

/-- The lines of four chunks stored, the result holds all of `W`. -/
theorem received_all (W : S4x128x512.Idx → Elt F .bf16) (f : S1x512x512.Idx → Elt F .f32) :
    (fun i : S1x512x512.Idx => if (i 1).val / 128 = (3 : Fin 4).val then unwire W i else if (i 1).val / 128 = (2 : Fin 4).val then unwire W i
      else if (i 1).val / 128 = (1 : Fin 4).val then unwire W i else if (i 1).val / 128 = (0 : Fin 4).val then unwire W i else f i)
      = unwire W := by
  funext i
  have h1 : (i 1).val < 512 := (i 1).isLt
  have h : (i 1).val / 128 = 3 ∨ (i 1).val / 128 = 2 ∨ (i 1).val / 128 = 1 ∨ (i 1).val / 128 = 0 := by omega
  rcases h with h | h | h | h <;> simp only [h] <;> rfl

/-- A copy of chunk `k` leaves on the chunk received what the chunk sent held. -/
theorem copied (k : Fin 4) (W fd : S4x128x512.Idx → Elt F .bf16) :
    ∀ i ∈ (inC k).view.set, (inC k).view.write (Elt F) fd ((outC k).view.read (Elt F) W) Finset.univ i = W i := by
  intro i hi
  obtain ⟨x, -, rfl⟩ := Finset.mem_map.mp hi
  exact (inC k).view.write_emb_of_mem fd _ (Finset.mem_univ x)

/-- The block through the wire and back: each element rounded and widened. -/
theorem unwire_wire (X : S1x512x512.Idx → Elt F .f32) :
    unwire (wire X) = extf .f32 (truncf .bf16 (fun i : S1x512x512.Idx => X i) bitsLt_bf16_f32) bitsLt_bf16_f32 := by
  funext i
  show FloatOps.extf .f32 bitsLt_bf16_f32 (FloatOps.truncf .bf16 bitsLt_bf16_f32 (X (line (cut i))))
    = FloatOps.extf .f32 bitsLt_bf16_f32 (FloatOps.truncf .bf16 bitsLt_bf16_f32 (X i))
  rw [line_cut]

end Cert.Permute

end
-- ==== Proof.Protocol.lean ====
/- What passes between the devices: the semaphore cells, what each hands over when it is waited on, what a device owes at
   launch, and the order in which cells may be waited on. All of it under one permutation `p` of the `y` coordinates.
   A device's barrier semaphore is signalled once, by the device it sends to, with that device's receive buffer. Each of its
   four send semaphores gives back one chunk of its own send buffer, each of its four receive semaphores one chunk received. -/
module

public import proofs.«01_k».proof.Proof.Chunks
public import Idealize.ShloMosaic.Lib.Pipeline.Launch
public import Idealize.ShloMosaic.Lib.Pipeline.Kit

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline's cells, and the kernel's nine cells a device, each with one duty. -/
abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (p : YPerm) (m : (ℓ : Loc nD τ sig) → Buf (Elt F) ℓ) (ρ : Dev nD → PrngReg)

/-- Any contents, every semaphore at zero. -/
def s₀ : MemSt nD τ sig (Elt F) := ⟨m, fun _ => 0, ρ⟩

/-! ## The cells -/

abbrev barS : Sem sig := (SemArray.scalar (sig.barrier 0 rfl) : Sems sig S_).sem
/-- The send and receive semaphore of chunk `k`. -/
abbrev sendQ (k : Fin 4) : DmaSem sig := ((cc0_scratch2.slice (Rect.unit (s := S4) ![k.val] S1.size (sem_inb k))).squeeze S_ squeezes_S1_S_).sem
abbrev recvQ (k : Fin 4) : DmaSem sig := ((cc0_scratch3.slice (Rect.unit (s := S4) ![k.val] S1.size (sem_inb k))).squeeze S_ squeezes_S1_S_).sem

theorem sendQ_val (k : Fin 4) : (sendQ k).val = 3 + k.val := by revert k; decide
theorem recvQ_val (k : Fin 4) : (recvQ k).val = 7 + k.val := by revert k; decide

/-- The launch's own semaphores: four to send, four to receive; and with the barrier before them, all nine. -/
abbrev Own : Type := Fin 4 ⊕ Fin 4
abbrev osem : Own → SemLoc sig := Sum.elim (fun k => .dma (sendQ k)) (fun k => .dma (recvQ k))
abbrev csem : Unit ⊕ Own → SemLoc sig := Sum.elim (fun _ => .reg barS) osem
abbrev kcell (cj : Dev nD × (Unit ⊕ Own)) : GSem nD τ sig := ((cj.1 : Thread nD τ), csem cj.2)

abbrev barCell (c : Dev nD) : GSem nD τ sig := ((c : Thread nD τ), .reg barS)
abbrev sendCell (c : Dev nD) (k : Fin 4) : GSem nD τ sig := ((c : Thread nD τ), .dma (sendQ k))
abbrev recvCell (c : Dev nD) (k : Fin 4) : GSem nD τ sig := ((c : Thread nD τ), .dma (recvQ k))

theorem csem_injective : Function.Injective csem := by decide
theorem kcell_injective : Function.Injective (kcell : Dev nD × (Unit ⊕ Own) → GSem nD τ sig) := by
  rintro ⟨c, j⟩ ⟨c', j'⟩ h
  have hc : c = c' := congrArg (fun g : GSem nD τ sig => g.1.1) h
  have hj : j = j' := csem_injective (congrArg Prod.snd h)
  rw [hc, hj]

theorem bar_eq_iff {a b : Dev nD} : barCell a = barCell b ↔ a = b :=
  ⟨fun h => congrArg (fun g : GSem nD τ sig => g.1.1) h, fun h => h ▸ rfl⟩
theorem recv_eq_iff {a b : Dev nD} {k k' : Fin 4} : recvCell a k = recvCell b k' ↔ a = b ∧ k = k' := by
  constructor
  · intro h
    have := kcell_injective (a₁ := (a, .inr (.inr k))) (a₂ := (b, .inr (.inr k'))) h
    exact ⟨congrArg Prod.fst this, by have h2 := congrArg Prod.snd this; exact Sum.inr.inj (Sum.inr.inj h2)⟩
  · rintro ⟨rfl, rfl⟩; rfl

/-- What one chunk's copy credits. -/
abbrev N : ℕ := (inC 0).view.dmaCredit
theorem N_pos : 0 < N := View.dmaCredit_pos _ (by decide)
theorem credit_in (k : Fin 4) : (inC k).view.dmaCredit = N := by fin_cases k <;> rfl
theorem credit_out (k : Fin 4) : (outC k).view.dmaCredit = N := by fin_cases k <;> rfl

/-! ## Contents -/

/-- The block of `x`, and the table, staged on device `c`. -/
def xstg (c : Dev nD) : (cc0_stg0_0 : Ref sig .tc).ty.Contents (Elt F) :=
  (win0_0.blk (0 : Fin 1)).view.read (Elt F) (m ((c : Thread nD τ).loc main_arg0))
def tstg (c : Dev nD) : (cc0_stg1_0 : Ref sig .tc).ty.Contents (Elt F) :=
  (win0_1.blk (0 : Fin 1)).view.read (Elt F) (m ((c : Thread nD τ).loc main_arg1))

/-- The result on device `c`: the block of the device it receives from, through the wire. -/
def outAt (c : Dev nD) : (cc0_stg2_0 : Ref sig .tc).ty.Contents (Elt F) := unwire (wire (xstg m (src p c)))

/-- Chunk `k` of a send or receive buffer, with its contents. -/
def outPts (c : Dev nD) (k : Fin 4) (f : S4x128x512.Idx → Elt F .bf16) : sProp 𝕄 :=
  (outC k).view.loc (c : Thread nD τ) ↦[(outC k).view.set]{fullShare} (f : Buf (Elt F) ((outC k).view.loc (c : Thread nD τ)))
def inPts (c : Dev nD) (k : Fin 4) (f : S4x128x512.Idx → Elt F .bf16) : sProp 𝕄 :=
  (inC k).view.loc (c : Thread nD τ) ↦[(inC k).view.set]{fullShare} (f : Buf (Elt F) ((inC k).view.loc (c : Thread nD τ)))

omit [FloatOps F] in
instance outPts_storable (c : Dev nD) (k : Fin 4) (f) : BI.Storable (upEmb : UEmb _ 𝕄) (outPts (F := F) c k f) := by unfold outPts; infer_instance
omit [FloatOps F] in
instance inPts_storable (c : Dev nD) (k : Fin 4) (f) : BI.Storable (upEmb : UEmb _ 𝕄) (inPts (F := F) c k f) := by unfold inPts; infer_instance

omit [FloatOps F] in
/-- A whole buffer is its four chunks. -/
theorem out_chunks (c : Dev nD) (f : S4x128x512.Idx → Elt F .bf16) :
    ((((c : Thread nD τ).loc cc0_scratch0) ↦{fullShare} f : sProp 𝕄)) = bigSep Finset.univ fun k : Fin 4 => outPts c k f := by
  have h := pointsTo_biUnion (Ix := Unit) (Name := ℕ) (U := UU) (Lvl := ℕ) (ℓ := (c : Thread nD τ).loc cc0_scratch0) (q := fullShare) (f := f)
    Finset.univ (fun k : Fin 4 => (chunk k).set) (fun _ _ _ _ hne => chunk_disjoint hne)
  rw [chunk_cover] at h
  exact h.trans (bigSep_congr fun k _ => by unfold outPts; rw [outC_set])
omit [FloatOps F] in
theorem in_chunks (c : Dev nD) (f : S4x128x512.Idx → Elt F .bf16) :
    ((((c : Thread nD τ).loc cc0_scratch1) ↦{fullShare} f : sProp 𝕄)) = bigSep Finset.univ fun k : Fin 4 => inPts c k f := by
  have h := pointsTo_biUnion (Ix := Unit) (Name := ℕ) (U := UU) (Lvl := ℕ) (ℓ := (c : Thread nD τ).loc cc0_scratch1) (q := fullShare) (f := f)
    Finset.univ (fun k : Fin 4 => (chunk k).set) (fun _ _ _ _ hne => chunk_disjoint hne)
  rw [chunk_cover] at h
  exact h.trans (bigSep_congr fun k _ => by unfold inPts; rw [inC_set])

/-! ## The schedule -/

/-- What a wait on each of device `c`'s cells hands it: at the barrier, the receive buffer of the device it sends to; at a
    send cell, its own chunk back; at a receive cell, the chunk of the device it receives from. -/
def handed (c : Dev nD) : Unit ⊕ Own → sProp 𝕄
  | .inl _ => iprop(∃ f, bigSep Finset.univ fun k : Fin 4 => inPts (dst p c) k f)
  | .inr (.inl k) => outPts c k (wire (xstg m c))
  | .inr (.inr k) => inPts c k (wire (xstg m (src p c)))

/-- The units one duty of each cell is worth. -/
def units : Unit ⊕ Own → ℕ := Sum.elim (fun _ => 1) (fun _ => N)

instance handed_storable (c : Dev nD) (j) : BI.Storable (upEmb : UEmb _ 𝕄) (handed p m c j) := by
  rcases j with _ | _ | _ <;> unfold handed <;> infer_instance

/-- The kind of cell a semaphore is. -/
def kindOf : SemLoc sig → Unit ⊕ Own
  | .reg _ => .inl ()
  | .dma q => if 7 ≤ q.val then .inr (.inr ⟨(q.val - 3) % 4, Nat.mod_lt _ (by decide)⟩)
      else .inr (.inl ⟨(q.val - 3) % 4, Nat.mod_lt _ (by decide)⟩)

theorem kindOf_csem (j : Unit ⊕ Own) : kindOf (csem j) = j := by revert j; decide

/-- One round: each of the nine cells of a device has one duty. -/
def sched : Rounds.Schedule (GSem nD τ sig) Unit 𝕄 where
  duties g r := if r = 0 ∧ g.1.2 = .tc ∧ ∃ j, g.2 = csem j then {()} else ∅
  unitless _ := False
  amount g _ _ := units (kindOf g.2)
  payload g _ _ := handed p m g.1.1 (kindOf g.2)
  amount_pos g _ _ _ := by
    unfold units
    rcases kindOf g.2 with _ | _
    · exact Nat.one_pos
    · exact N_pos

instance sched_payload_storable (g : GSem nD τ sig) (r : ℕ) (d : Unit) :
    BI.Storable (upEmb : UEmb _ 𝕄) ((sched p m).payload g r d) :=
  handed_storable p m g.1.1 (kindOf g.2)

theorem duties_cell (c : Dev nD) (j : Unit ⊕ Own) : (sched p m).duties (kcell (c, j)) 0 = {()} := if_pos ⟨rfl, rfl, j, rfl⟩
theorem mem_duties (c : Dev nD) (j : Unit ⊕ Own) : () ∈ (sched p m).duties (kcell (c, j)) 0 := by
  rw [duties_cell]; exact Finset.mem_singleton_self _
theorem duties_later (g : GSem nD τ sig) : ∀ r, 1 ≤ r → (sched p m).duties g r = ∅ :=
  fun r hr => if_neg fun h => by omega
theorem amount_cell (c : Dev nD) (j : Unit ⊕ Own) : (sched p m).amount (kcell (c, j)) 0 () = units j := by
  show units (kindOf (csem j)) = _; rw [kindOf_csem]
theorem payload_cell (c : Dev nD) (j : Unit ⊕ Own) : (sched p m).payload (kcell (c, j)) 0 () = handed p m c j := by
  show handed p m c (kindOf (csem j)) = _; rw [kindOf_csem]
theorem expect_cell (c : Dev nD) (j : Unit ⊕ Own) : (sched p m).expect (kcell (c, j)) 0 = units j := by
  unfold Schedule.expect Schedule.amountOf; rw [duties_cell, Finset.sum_singleton, amount_cell]
theorem rest_cell (c : Dev nD) (j : Unit ⊕ Own) :
    bigSep ((sched p m).duties (kcell (c, j)) 0 \ ∅) (fun d => (sched p m).payload (kcell (c, j)) 0 d) = handed p m c j := by
  rw [Finset.sdiff_empty, duties_cell, bigSep_singleton]; exact payload_cell p m c j

/-! ## What a device owes, and the order of the cells -/

/-- The credit of the last `n` of its four copies, owed to the receive cells of the device it sends to. -/
def debt (c : Dev nD) : ℕ → CellTallies nD τ sig Unit
  | 0 => 0
  | n + 1 => debt c n + tallyAt (recvCell (dst p c) ⟨(3 - n) % 4, Nat.mod_lt _ (by decide)⟩) () N

/-- At launch: its four copies, and one unit to the barrier of the device it receives from. -/
def O₀ (c : Dev nD) : CellTallies nD τ sig Unit := debt p c 4 + tallyAt (barCell (src p c)) () 1

theorem debt_step (c : Dev nD) (k : Fin 4) : debt p c (4 - k.val) = debt p c (3 - k.val) + tallyAt (recvCell (dst p c) k) () N := by
  fin_cases k <;> rfl

theorem debt_pos {c : Dev nD} {n : ℕ} {g : GSem nD τ sig} {u : Unit} (h : 0 < debt p c n g u) : ∃ k, g = recvCell (dst p c) k := by
  induction n with
  | zero => exact absurd h (Nat.lt_irrefl 0)
  | succ n ih =>
    unfold debt at h
    rw [Pi.add_apply, Finsupp.add_apply, tallyAt_apply] at h
    by_cases hg : g = recvCell (dst p c) ⟨(3 - n) % 4, Nat.mod_lt _ (by decide)⟩ ∧ u = ()
    · exact ⟨_, hg.1⟩
    · rw [if_neg hg] at h; exact ih h

theorem O₀_pos {c : Dev nD} {g : GSem nD τ sig} {u : Unit} (h : 0 < O₀ p c g u) :
    (∃ k, g = recvCell (dst p c) k) ∨ g = barCell (src p c) := by
  unfold O₀ at h
  rw [Pi.add_apply, Finsupp.add_apply, tallyAt_apply] at h
  by_cases hg : g = barCell (src p c) ∧ u = ()
  · exact .inr hg.1
  · rw [if_neg hg, Nat.add_zero] at h; exact .inl (debt_pos p h)

def L (g : GSem nD τ sig) : Finset Unit := if g.1.2 = .tc then {()} else ∅
/-- Barriers before receive cells; the staging and send semaphores below both. -/
def lv (g : GSem nD τ sig) (_ : Unit) : ℕ := match g.2 with
  | .reg _ => 1
  | .dma q => if 7 ≤ q.val then 2 else 0

theorem L_of_ne (g : GSem nD τ sig) (h : g.1.2 ≠ .tc) : L g = ∅ := if_neg h
theorem mem_L (c : Dev nD) (sm : SemLoc sig) : () ∈ L ((c : Thread nD τ), sm) := by
  rw [show L ((c : Thread nD τ), sm) = {()} from if_pos rfl]; exact Finset.mem_singleton_self _
theorem lv_recv (c : Dev nD) (k : Fin 4) : lv (recvCell c k) () = 2 := if_pos (by rw [recvQ_val]; omega)

theorem mayWait_stage (c : Dev nD) (q : DmaSem sig) (hq : ¬ 7 ≤ q.val) (O : CellTallies nD τ sig Unit) (hO : O = O₀ p c ∨ O = 0) :
    (levAts L lv : sProp 𝕄) ⊢ MayWait (c : Thread nD τ) (.dma q) () O := by
  rcases hO with rfl | rfl
  · refine MayOwe.of_cut (L := L) (lev := lv) 0 (fun u hu => by rw [Finset.mem_singleton.mp hu]; exact mem_L c _)
      (fun g u hg => by rcases O₀_pos p hg with ⟨k, rfl⟩ | rfl <;> exact mem_L _ _)
      (fun u hu => by rw [Finset.mem_singleton.mp hu]; exact le_of_eq (if_neg hq))
      (fun g u hg => by
        rcases O₀_pos p hg with ⟨k, rfl⟩ | rfl
        · rw [show u = () from rfl, lv_recv]; decide
        · exact Nat.one_pos)
  · rw [MayWait_zero]; iintro -; iempintro

/-- At its barrier a device owes its four copies only, to receive cells. -/
theorem mayWait_bar (c : Dev nD) :
    (levAts L lv : sProp 𝕄) ⊢ MayWait (c : Thread nD τ) (.reg barS) () (debt p c 4) :=
  MayOwe.of_cut (L := L) (lev := lv) 1 (fun u hu => by rw [Finset.mem_singleton.mp hu]; exact mem_L c _)
    (fun g u hg => by obtain ⟨k, rfl⟩ := debt_pos p hg; exact mem_L _ _)
    (fun u hu => by rw [Finset.mem_singleton.mp hu]; exact le_rfl)
    (fun g u hg => by obtain ⟨k, rfl⟩ := debt_pos p hg; rw [show u = () from rfl, lv_recv]; decide)

/-! ## What a device starts from and what it leaves -/

/-- Every cell's invariant, under the names `K`, and that every cell is at its first round. -/
def records (K : Dev nD × (Unit ⊕ Own) → ℕ) : sProp 𝕄 :=
  iprop((bigSep Finset.univ fun cj : Dev nD × (Unit ⊕ Own) => cellInv ER (sched p m) (K cj) (kcell cj))
    ∗ bigSep Finset.univ fun cj : Dev nD × (Unit ⊕ Own) => reached ER (kcell cj) 0)

instance records_persistent (K : Dev nD × (Unit ⊕ Own) → ℕ) : BI.Persistent (records p m K) := by unfold records; infer_instance

theorem inv_at (K : Dev nD × (Unit ⊕ Own) → ℕ) (c : Dev nD) (j : Unit ⊕ Own) :
    records p m K ⊢ cellInv ER (sched p m) (K (c, j)) (kcell (c, j)) := by
  unfold records
  iintro ⟨H, -⟩
  iapply (show _ ⊢ _ from bigSep_elim (Finset.mem_univ (c, j)) (Φ := fun cj : Dev nD × (Unit ⊕ Own) => (cellInv ER (sched p m) (K cj) (kcell cj) : sProp 𝕄))) $$ H
theorem reached_at (K : Dev nD × (Unit ⊕ Own) → ℕ) (c : Dev nD) (j : Unit ⊕ Own) :
    records p m K ⊢ (reached ER (kcell (c, j)) 0 : sProp 𝕄) := by
  unfold records
  iintro ⟨-, H⟩
  iapply (show _ ⊢ _ from bigSep_elim (Finset.mem_univ (c, j)) (Φ := fun cj : Dev nD × (Unit ⊕ Own) => (reached ER (kcell cj) 0 : sProp 𝕄))) $$ H

/-- The tokens of the duties a device performs: the barrier of the device it receives from, its own send cells, the receive
    cells of the device it sends to. -/
def payToks (c : Dev nD) : sProp 𝕄 :=
  iprop(dutyTok ER (barCell (src p c)) 0 () ∗ (bigSep Finset.univ fun k => dutyTok ER (sendCell c k) 0 ())
    ∗ bigSep Finset.univ fun k => dutyTok ER (recvCell (dst p c) k) 0 ())
/-- Its position at each of its own nine cells, and those tokens. -/
def linear (c : Dev nD) : sProp 𝕄 :=
  iprop((bigSep Finset.univ fun j => atPos ER (kcell (c, j)) 0 ∅ 0) ∗ payToks p c)

/-- The credit of its own barrier and of its own four receive cells. -/
def credits (c : Dev nD) : sProp 𝕄 :=
  iprop(cred (tallyAt (barCell c) () 1) ∗ bigSep Finset.univ fun k => cred (tallyAt (recvCell c k) () N))

def start (c : Dev nD) : sProp 𝕄 :=
  iprop((∃ K, records p m K ∗ linear p c) ∗ credits c ∗ levAts L lv)

def Φ₀ (c : Dev nD) : sProp 𝕄 :=
  iprop(start p m c ∗ (∃ f, (((c : Thread nD τ).loc cc0_scratch0) ↦{fullShare} f)) ∗ (∃ f, (((c : Thread nD τ).loc cc0_scratch1) ↦{fullShare} f)))
/-- Both buffers, and all nine semaphores at zero. -/
def Φ₁ (c : Dev nD) : sProp 𝕄 :=
  iprop((bigSep Finset.univ fun j => semVal (kcell (c, j)) 0)
    ∗ (∃ f, (((c : Thread nD τ).loc cc0_scratch0) ↦{fullShare} f)) ∗ (∃ f, (((c : Thread nD τ).loc cc0_scratch1) ↦{fullShare} f)))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => tstg m c
    | ⟨2, _⟩ => outAt p m c
  Φ t := match t with
    | ⟨0, _⟩ => Φ₀ p m c
    | ⟨_ + 1, _⟩ => Φ₁ c
  q _ := fullShare
  owed t := match t with
    | ⟨0, _⟩ => O₀ p c
    | ⟨_ + 1, _⟩ => 0

omit [FloatOps F] in
/-- Over the nine cells: the barrier, the send cells, the receive cells. -/
theorem bigSep_cells (Φ : Unit ⊕ Own → sProp 𝕄) :
    bigSep Finset.univ Φ = iprop(Φ (.inl ()) ∗ (bigSep Finset.univ fun k => Φ (.inr (.inl k))) ∗ bigSep Finset.univ fun k => Φ (.inr (.inr k))) := by
  rw [bigSep_univ_sum, bigSep_univ_sum, show (Finset.univ : Finset Unit) = {()} from rfl, bigSep_singleton]
  rfl

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.Permute

end
-- ==== Proof.Body.lean ====
/- The kernel's body on any one device `c`, run once: under a table that holds the permutation `p`, from what the launch
   hands it to the block of `src p c` in its result. -/
module

public import proofs.«01_k».proof.Proof.Protocol

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (p : YPerm) (m : (ℓ : Loc nD τ sig) → Buf (Elt F) ℓ)

/-! ## The table -/

/-- The place of `y` in a table of four words. -/
def entry (y : Fin 4) : S4.Idx := fun a => ⟨y.val, by fin_cases a; exact y.isLt⟩

/-- Every device's table holds the permutation `p`. -/
def HasOrder : Prop := ∀ (c : Dev nD) (y : Fin 4),
  (m ((c : Thread nD τ).loc main_arg1) : S4.Idx → BitVec 32) (entry y) = yWord (p y)

/-- A word read out of the staged table. -/
theorem word_at (c : Dev nD) (off : Fin S4.rank → Nat) (inb : ∀ a, off a + S1.size a ≤ S4.size a) (y : Fin 4) (hoff : off 0 = y.val)
    (h : HasOrder p m) :
    ((tM.access (Rect.unit (s := S4) off S1.size inb) : View sig .tc _ _ _).read (Elt F) (tstg m c)
        (Shape.Idx.first (s := S1) (numel1_S1.symm ▸ Nat.one_pos)) : BitVec 32) = yWord (p y) := by
  rw [← h c y]
  show m ((c : Thread nD τ).loc main_arg1) _ = _
  refine congrArg _ (funext fun a => Fin.ext ?_)
  fin_cases a
  show 0 * 4 + 1 * (off 0 + 1 * 0) = y.val
  omega

theorem off_own (c : Dev nD) : k0_off1 c 0 = (yOf c).val := by rw [k0_off1_eq]; rfl

/-! ## The steps, for any chunk -/

/-- A device's debt, whatever waits it has behind it. -/
def owing (c : Dev nD) (O : CellTallies nD τ sig Unit) : sProp 𝕄 := iprop(∃ W : Waits sig Unit, owes (c : Thread nD τ) O W)

section Steps

variable (K : Dev nD × (Unit ⊕ Own) → ℕ)

/-- A wait on one of a device's own cells: what the cell hands over, and its counter back at zero. -/
theorem wp_wait_cell (c : Dev nD) (j : Unit ⊕ Own) {n : ℕ} (hn : n = units j) {w : TpuEff nD τ sig (Elt F) Λ₀ .tc PUnit}
    (hw : ∀ Kt : PUnit → sProp 𝕄, wpE (defs₀ (F := F)) Variants.none (c : Thread nD τ) none Set.univ w Kt
      = waitSpec (c : Thread nD τ) Set.univ (csem j) n Kt)
    {α : Type} {Q : α → sProp 𝕄} {k : PUnit → Prog (TpuEff nD τ sig (Elt F) Λ₀ .tc) α} (O : CellTallies nD τ sig Unit) :
    iprop(records p m K ∗ cred (tallyAt (kcell (c, j)) () (units j)) ∗ owing c O ∗ MayWait (c : Thread nD τ) (csem j) () O
        ∗ atPos ER (kcell (c, j)) 0 ∅ 0)
      ⊢ iprop(((owing c O ∗ semVal (kcell (c, j)) 0 ∗ handed p m c j)
            -∗ wp frame (wpE (defs₀ (F := F)) Variants.none (c : Thread nD τ) none) Set.univ (k ⟨⟩) Q)
          -∗ wp frame (wpE (defs₀ (F := F)) Variants.none (c : Thread nD τ) none) Set.univ (.op w k) Q) := by
  subst hn
  unfold owing
  iintro ⟨#HR, Hc, ⟨%W, HO⟩, Hw, Hat⟩ Hk
  iapply (Rounds.wp_wait_rest_token Variants.none ER (sched p m) (c : Thread nD τ) none (κ := K (c, j)) hw (Set.mem_univ _) ()
      (O := O) (W := W) (R := 0) (m := 0) (T := ∅) (by rw [Nat.zero_add]; exact (expect_cell p m c j).symm)) $$ [Hc HO Hw Hat]
  · isplitr; · iapply (inv_at p m K c j); iexact HR
    isplitl [Hc]; · iexact Hc
    isplitl [HO]; · iexact HO
    isplitl [Hw]; · iexact Hw
    iexact Hat
  iintro ⟨HO, Hat, -, Hpay⟩
  ihave Hp := (Entails.of_eq (rest_cell p m c j)) $$ Hpay
  imod (Rounds.cell_close ER (sched p m) (Set.mem_univ (K (c, j))) (fun h => h) (R := 0 + 1) (duties_later p m (kcell (c, j)))) $$ [Hat] with Hz
  · isplitr; · iapply (inv_at p m K c j); iexact HR
    iexact Hat
  iapply Hk
  isplitl [HO]; · iexists _; iexact HO
  isplitl [Hz] <;> iassumption

/-- The signal to the device `c` receives from, `n`: it hands over `c`'s receive buffer. -/
theorem wp_signal_ready (c n : Dev nD) (hn : n = src p c)
    {α : Type} {Q : α → sProp 𝕄} {k : PUnit → Prog (TpuEff nD τ sig (Elt F) Λ₀ .tc) α}
    (f : S4x128x512.Idx → Elt F .bf16) :
    iprop(records p m K ∗ owing c (O₀ p c) ∗ dutyTok ER (barCell (src p c)) 0 () ∗ (((c : Thread nD τ).loc cc0_scratch1) ↦{fullShare} f))
      ⊢ iprop((owing c (debt p c 4)
            -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS 1) k) Q) := by
  subst hn
  unfold owing
  iintro ⟨#HR, ⟨%W, HO⟩, Ht, Hf⟩ Hk
  iapply (Rounds.wp_signal Variants.none ER (sched p m) (c : Thread nD τ) none (dst := (src p c : Thread nD τ)) (κ := K (src p c, .inl ()))
      (d := ()) (mem_duties p m (src p c) (.inl ())) (amount_cell p m (src p c) (.inl ())) () (debt p c 4) rfl) $$ [HO Ht Hf]
  · isplitr; · iapply (inv_at p m K (src p c) (.inl ())); iexact HR
    isplitl [HO]; · iexact HO
    isplitl [Ht]; · iexact Ht
    isplitl [Hf]
    · rw [show (sched p m).payload (barCell (src p c)) 0 () = _ from payload_cell p m (src p c) (.inl ())]
      unfold handed; rw [dst_src]
      iexists f
      iapply (Entails.of_eq (in_chunks (F := F) c f)); iexact Hf
    · iapply (reached_at p m K (src p c) (.inl ())); iexact HR
  iintro HO
  iapply Hk
  iexists W; iexact HO

/-- A copy of chunk `k` landed is what the receive cell of the device it went to hands over. -/
theorem landed_eq (c : Dev nD) (k : Fin 4) (f : S4x128x512.Idx → Elt F .bf16) :
    ((inC k).view.loc (dst p c : Thread nD τ) ↦[(inC k).view.set]{fullShare}
        ((inC k).view.write (Elt F) f ((outC k).view.read (Elt F) (wire (xstg m c))) Finset.univ) : sProp 𝕄)
      = handed p m (dst p c) (.inr (.inr k)) := by
  unfold handed inPts; rw [src_dst]
  exact pointsTo_congr (copied k (wire (xstg m c)) f)

/-- The copy of chunk `k` to the device `c` sends to, `n`. -/
theorem wp_send_chunk (c n : Dev nD) (hn : n = dst p c) (k : Fin 4)
    {hsc : (inC k : Memref sig (Dev.tc n : Thread nD τ).2.kind .vmem S128x512 .bf16).view.ref.isScScratch = false}
    {hsrc : (outC k).view.WordExact} {hdst : (inC k).view.WordExact}
    {hsem : DmaTarget.Typed .vmem (.dma (recvQ k)) (.remote (Dev.tc n : Thread nD τ) (inC k) (.dma (sendQ k)) hsc)}
    {α : Type} {Q : α → sProp 𝕄} {kt : PUnit → Prog (TpuEff nD τ sig (Elt F) Λ₀ .tc) α}
    (f : S4x128x512.Idx → Elt F .bf16) :
    iprop(records p m K ∗ outPts c k (wire (xstg m c)) ∗ inPts (dst p c) k f ∗ owing c (debt p c (4 - k.val))
        ∗ dutyTok ER (sendCell c k) 0 () ∗ dutyTok ER (recvCell (dst p c) k) 0 ())
      ⊢ iprop(((cred (tallyAt (sendCell c k) () N) ∗ owing c (debt p c (3 - k.val)))
            -∗ wp frame (wpE (defs₀ (F := F)) Variants.none (c : Thread nD τ) none) Set.univ (kt ⟨⟩) Q)
          -∗ wp frame (wpE (defs₀ (F := F)) Variants.none (c : Thread nD τ) none) Set.univ
              (.op (.enqueueDma (outC k) (.remote (Dev.tc n : Thread nD τ) (inC k) (.dma (sendQ k)) hsc) (.dma (recvQ k)) hsrc hdst hsem) kt) Q) := by
  subst hn
  unfold outPts inPts owing
  iintro ⟨#HR, Ho, Hi, ⟨%W, HO⟩, Ht1, Ht2⟩ Hk
  iapply (Rounds.wp_send_pointsTo Variants.none ER (sched p m) (c : Thread nD τ) none (κ₁ := K (c, .inr (.inl k))) (κ₂ := K (dst p c, .inr (.inr k)))
      (r₁ := 0) (r₂ := 0) (d₁ := ()) (d₂ := ()) (fd := f)
      (mem_duties p m c (.inr (.inl k))) (mem_duties p m (dst p c) (.inr (.inr k))) () () N (credit_in k)
      (amount_cell p m c (.inr (.inl k))) (amount_cell p m (dst p c) (.inr (.inr k))) (debt p c (3 - k.val)) (debt_step p c k) (W := W)
      (Entails.of_eq (payload_cell p m c (.inr (.inl k))).symm)
      (Entails.of_eq ((landed_eq p m c k f).trans (payload_cell p m (dst p c) (.inr (.inr k))).symm)))
    $$ [Ho Hi HO Ht1 Ht2]
  · isplitr; · iapply (inv_at p m K c (.inr (.inl k))); iexact HR
    isplitr; · iapply (inv_at p m K (dst p c) (.inr (.inr k))); iexact HR
    isplitl [Ho]; · iexact Ho
    isplitl [Hi]; · iexact Hi
    isplitl [HO]; · iexact HO
    isplitl [Ht1]; · iexact Ht1
    isplitr; · iapply (reached_at p m K c (.inr (.inl k))); iexact HR
    isplitl [Ht2]; · iexact Ht2
    iapply (reached_at p m K (dst p c) (.inr (.inr k))); iexact HR
  iintro ⟨Hc, HO⟩
  iapply Hk
  isplitl [Hc]; · iexact Hc
  iexists W; iexact HO

/-- A load of chunk `k` of the receive buffer, that chunk held. -/
theorem wp_load_chunk (c : Dev nD) (k : Fin 4) {hl : inM.view.LoadsAt (chunk k).toLoadRect}
    {α : Type} {Q : α → sProp 𝕄} {kt : ((chunk k).toLoadRect.shape.Idx → Elt F .bf16) → Prog (TpuEff nD τ sig (Elt F) Λ₀ .tc) α}
    (W : S4x128x512.Idx → Elt F .bf16) :
    inPts c k W ⊢ iprop((inPts c k W -∗ wp frame (wpE (defs₀ (F := F)) Variants.none (c : Thread nD τ) none) Set.univ
          (kt (inM.view.readAt (Elt F) (chunk k).toLoadRect W)) Q)
        -∗ wp frame (wpE (defs₀ (F := F)) Variants.none (c : Thread nD τ) none) Set.univ (.op (.load inM (chunk k).toLoadRect hl) kt) Q) := by
  unfold inPts
  exact wp_load Variants.none (c : Thread nD τ) none Set.univ (m := inM)
    (by rw [inC_set]; exact fun i hi => by obtain ⟨j, hj, rfl⟩ := Finset.mem_map.mp hi; exact hj)

/-- A store of chunk `k` of the send buffer: the lines of `X` it takes, rounded. -/
theorem wp_store_chunk (c : Dev nD) (k : Fin 4) {w : (chunk k).shape.Idx → Elt F .bf16} (X : S1x512x512.Idx → Elt F .f32)
    (hwd : w = truncf .bf16 (xM.view.readAt (Elt F) (rows k).toLoadRect X) bitsLt_bf16_f32)
    {hx : (outM.access (chunk k)).Stores Finset.univ} {hm}
    {α : Type} {Q : α → sProp 𝕄} {kt : PUnit → Prog (TpuEff nD τ sig (Elt F) Λ₀ .tc) α} (f : S4x128x512.Idx → Elt F .bf16) :
    (((c : Thread nD τ).loc cc0_scratch0) ↦{fullShare} f)
      ⊢ iprop(((((c : Thread nD τ).loc cc0_scratch0) ↦{fullShare} (fun i : S4x128x512.Idx => if (i 0).val = k.val then wire X i else f i))
          -∗ wp frame (wpE (defs₀ (F := F)) Variants.none (c : Thread nD τ) none) Set.univ (kt ⟨⟩) Q)
        -∗ wp frame (wpE (defs₀ (F := F)) Variants.none (c : Thread nD τ) none) Set.univ (.op (.store outM (chunk k) w Finset.univ hx hm) kt) Q) := by
  subst hwd
  rw [← store_chunk k X f]
  exact wp_store Variants.none (c : Thread nD τ) none Set.univ (m := outM) (r := chunk k) (Mk := Finset.univ) (Finset.subset_univ _)

/-- A store of the lines of chunk `k` of the result: the chunk of `W`, widened. -/
theorem wp_store_rows (c : Dev nD) (k : Fin 4) {w : (rows k).shape.Idx → Elt F .f32} (W : S4x128x512.Idx → Elt F .bf16)
    (hwd : w = extf .f32 (inM.view.readAt (Elt F) (chunk k).toLoadRect W) bitsLt_bf16_f32)
    {hx : (oM.access (rows k)).Stores Finset.univ} {hm}
    {α : Type} {Q : α → sProp 𝕄} {kt : PUnit → Prog (TpuEff nD τ sig (Elt F) Λ₀ .tc) α} (f : S1x512x512.Idx → Elt F .f32) :
    (((c : Thread nD τ).loc cc0_stg2_0) ↦{fullShare} f)
      ⊢ iprop(((((c : Thread nD τ).loc cc0_stg2_0) ↦{fullShare} (fun i : S1x512x512.Idx => if (i 1).val / 128 = k.val then unwire W i else f i))
          -∗ wp frame (wpE (defs₀ (F := F)) Variants.none (c : Thread nD τ) none) Set.univ (kt ⟨⟩) Q)
        -∗ wp frame (wpE (defs₀ (F := F)) Variants.none (c : Thread nD τ) none) Set.univ (.op (.store oM (rows k) w Finset.univ hx hm) kt) Q) := by
  subst hwd
  rw [← store_rows k W f]
  exact wp_store Variants.none (c : Thread nD τ) none Set.univ (m := oM) (r := rows k) (Mk := Finset.univ) (Finset.subset_univ _)

end Steps

/-! ## The run of the body -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_x (t : Fin cfg0.N) : (cfg0.win (0 : Fin 3)).fetch t = true := by rw [fin_N t]; rfl
theorem fetch_t (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer that holds `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ p m c ∗ (dats p m 0 c).owesAt () t₀.castSucc
    ∗ (∃ d, stg c cc0_stg0_0 ((dats p m 0 c).before (0 : Fin 3) t₀ d))
    ∗ (∃ d, stg c cc0_stg1_0 ((dats p m 0 c).before (1 : Fin 3) t₀ d))
    ∗ (∃ d, stg c cc0_stg2_0 ((dats p m 0 c).before (2 : Fin 3) t₀ d)))

def bodyPost (c : Dev nD) : sProp 𝕄 :=
  iprop(Φ₁ c ∗ (dats p m 0 c).owesAt () t₀.succ
    ∗ stg c cc0_stg0_0 (xstg m c) ∗ stg c cc0_stg1_0 (tstg m c) ∗ stg c cc0_stg2_0 (outAt p m c))

set_option maxHeartbeats 4000000 in
set_option maxRecDepth 4000 in
/-- The body, one rule for each operation in program order. -/
theorem sound_body (h : HasOrder p m) (c : Dev nD) (Kt : PUnit → sProp 𝕄) :
    iprop(bodyPre p m c ∗ (bodyPost p m c -∗ Kt ⟨⟩))
      ⊢ wp frame (wpE (defs₀ (F := F)) Variants.none (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton, cc0_body_skel, k0_part1_eq_skeleton, k0_part2_eq_skeleton, k0_part3_eq_skeleton, k0_part4_eq_skeleton,
    k0_part5_eq_skeleton, k0_part6_eq_skeleton, k0_part7_eq_skeleton, k0_part1_skel, k0_part2_skel, k0_part3_skel, k0_part4_skel,
    k0_part5_skel, k0_part6_skel, k0_part7_skel]
  simp only [semSignalWord, semWaitWord, smemLoad, smemLoadElt, Prog.lift, Prog.bind_op, Prog.bind_ret, Prog.pure_eq_ret, Prog.bind_assoc,
    wp_deviceId]
  unfold bodyPre Φ₀ start linear payToks credits
  iintro ⟨⟨⟨⟨⟨%K, #HR, Hat, HtB, HtS, HtV⟩, ⟨HcB, HcV⟩, #Hlev⟩, ⟨%fo, Hout⟩, ⟨%fi, Hin⟩⟩, Ho,
    ⟨%d0, %g0, %hg0, Hx⟩, ⟨%d1, %g1, %hg1, Ht⟩, ⟨%d2, %g2, %hg2, Hres⟩⟩, Hk⟩
  have hx : g0 = xstg m c := by rw [hg0]; unfold Dat.before; rw [if_pos (fetch_x t₀)]; rfl
  subst hx
  have ht : g1 = tstg m c := by rw [hg1]; unfold Dat.before; rw [if_pos (fetch_t t₀)]; rfl
  subst ht
  unfold Dat.owesAt Pipeline.owesWithin
  icases Ho with ⟨%W, %hW, HO⟩
  rw [show (dats p m 0 c).owed t₀.castSucc = O₀ p c from rfl]
  ihave HO := (show owes (c : Thread nD τ) (O₀ p c) W ⊢ owing (F := F) c (O₀ p c) from by unfold owing; iintro H; iexists W; iexact H) $$ HO
  -- the table: the word of the device's own coordinate, then all four
  iapply (wp_load_rect Variants.none (c : Thread nD τ) none Set.univ (m := tM) (r := Rect.unit (s := S4) (k0_off1 c) S1.size (k0_off1_inb c))
    (Finset.subset_univ _)) $$ Ht; iintro Ht
  rw [word_at p m c _ _ (yOf c) (off_own c) h]
  simp only [wp_assume_of _ _ _ _ (d := k0_chk2.dec _ _) (chk_send c (p (yOf c)))]
  iapply (wp_load_rect Variants.none (c : Thread nD τ) none Set.univ (m := tM) (r := Rect.unit (s := S4) ![0] S1.size inb_S4_S1_0)
    (Finset.subset_univ _)) $$ Ht; iintro Ht
  rw [word_at p m c ![0] _ 0 rfl h]
  iapply (wp_load_rect Variants.none (c : Thread nD τ) none Set.univ (m := tM) (r := Rect.unit (s := S4) ![1] S1.size inb_S4_S1_1)
    (Finset.subset_univ _)) $$ Ht; iintro Ht
  rw [word_at p m c ![1] _ 1 rfl h]
  iapply (wp_load_rect Variants.none (c : Thread nD τ) none Set.univ (m := tM) (r := Rect.unit (s := S4) ![2] S1.size inb_S4_S1_2)
    (Finset.subset_univ _)) $$ Ht; iintro Ht
  rw [word_at p m c ![2] _ 2 rfl h]
  iapply (wp_load_rect Variants.none (c : Thread nD τ) none Set.univ (m := tM) (r := Rect.unit (s := S4) ![3] S1.size inb_S4_S1_3)
    (Finset.subset_univ _)) $$ Ht; iintro Ht
  rw [word_at p m c ![3] _ 3 rfl h]
  simp only [wp_assume_of _ _ _ _ (d := k0_chk1.dec _ _ _ _ _) (k0_chk1_all c (yWord (p 0)) (yWord (p 1)) (yWord (p 2)) (yWord (p 3)))]
  -- the block, rounded into the send buffer chunk by chunk
  iapply (wp_load Variants.none (c : Thread nD τ) none Set.univ (m := xM) (Finset.subset_univ _)) $$ Hx; iintro Hx
  iapply (wp_load Variants.none (c : Thread nD τ) none Set.univ (m := outM) (Finset.subset_univ _)) $$ Hout; iintro Hout
  iapply (wp_store_chunk c 0 (xstg m c) (pay_narrow _).1) $$ Hout; iintro Hout
  iapply (wp_load Variants.none (c : Thread nD τ) none Set.univ (m := xM) (Finset.subset_univ _)) $$ Hx; iintro Hx
  iapply (wp_load Variants.none (c : Thread nD τ) none Set.univ (m := outM) (Finset.subset_univ _)) $$ Hout; iintro Hout
  iapply (wp_store_chunk c 1 (xstg m c) (pay_narrow _).2.1) $$ Hout; iintro Hout
  iapply (wp_load Variants.none (c : Thread nD τ) none Set.univ (m := xM) (Finset.subset_univ _)) $$ Hx; iintro Hx
  iapply (wp_load Variants.none (c : Thread nD τ) none Set.univ (m := outM) (Finset.subset_univ _)) $$ Hout; iintro Hout
  iapply (wp_store_chunk c 2 (xstg m c) (pay_narrow _).2.2.1) $$ Hout; iintro Hout
  iapply (wp_load Variants.none (c : Thread nD τ) none Set.univ (m := xM) (Finset.subset_univ _)) $$ Hx; iintro Hx
  iapply (wp_load Variants.none (c : Thread nD τ) none Set.univ (m := outM) (Finset.subset_univ _)) $$ Hout; iintro Hout
  iapply (wp_store_chunk c 3 (xstg m c) (pay_narrow _).2.2.2) $$ Hout; iintro Hout
  rw [stored_all]
  ihave Hout' := (Entails.of_eq ((out_chunks c (wire (xstg m c))).trans (bigSep_four _))) $$ Hout
  icases Hout' with ⟨Ho0, Ho1, Ho2, Ho3⟩
  -- ready: its receive buffer goes to the device it receives from
  iapply (wp_signal_ready p m K c _ (Fin.ext (dev_ready_perm p c)) fi) $$ [HO HtB Hin]
  · isplitr; · iexact HR
    isplitl [HO]; · iexact HO
    isplitl [HtB] <;> iassumption
  iintro HO
  -- the barrier: the receive buffer of the device it sends to comes
  ihave Hat' := (Entails.of_eq (bigSep_cells (F := F) (fun j => atPos ER (kcell (c, j)) 0 ∅ 0))) $$ Hat
  icases Hat' with ⟨HaB, HaS, HaV⟩
  iapply (wp_wait_cell p m K c (.inl ()) rfl (wpE_semWait_eq Variants.none (c : Thread nD τ) none Set.univ) (debt p c 4)) $$ [HcB HO HaB]
  · isplitr; · iexact HR
    isplitl [HcB]; · iexact HcB
    isplitl [HO]; · iexact HO
    isplitr; · iapply (mayWait_bar p c); iexact Hlev
    iexact HaB
  iintro ⟨HO, HzB, Hpay⟩
  ihave Hpay' := (Entails.of_eq (show handed p m c (.inl ()) = iprop(∃ f, bigSep Finset.univ fun k : Fin 4 => inPts (dst p c) k f) from rfl)) $$ Hpay
  icases Hpay' with ⟨%fd, Hd⟩
  ihave Hd' := (Entails.of_eq (bigSep_four (F := F) (fun k => inPts (dst p c) k fd))) $$ Hd
  icases Hd' with ⟨Hd0, Hd1, Hd2, Hd3⟩
  ihave HtS' := (Entails.of_eq (bigSep_four (F := F) (fun k => dutyTok ER (sendCell c k) 0 ()))) $$ HtS
  icases HtS' with ⟨HtS0, HtS1, HtS2, HtS3⟩
  ihave HtV' := (Entails.of_eq (bigSep_four (F := F) (fun k => dutyTok ER (recvCell (dst p c) k) 0 ()))) $$ HtV
  icases HtV' with ⟨HtV0, HtV1, HtV2, HtV3⟩
  ihave HaS' := (Entails.of_eq (bigSep_four (F := F) (fun k => atPos ER (kcell (c, .inr (.inl k))) 0 ∅ 0))) $$ HaS
  icases HaS' with ⟨HaS0, HaS1, HaS2, HaS3⟩
  ihave HaV' := (Entails.of_eq (bigSep_four (F := F) (fun k => atPos ER (kcell (c, .inr (.inr k))) 0 ∅ 0))) $$ HaV
  icases HaV' with ⟨HaV0, HaV1, HaV2, HaV3⟩
  ihave HcV' := (Entails.of_eq (bigSep_four (F := F) (fun k => cred (tallyAt (recvCell c k) () N)))) $$ HcV
  icases HcV' with ⟨HcV0, HcV1, HcV2, HcV3⟩
  -- the four copies
  iapply (wp_send_chunk p m K c _ (Fin.ext (dev_send c (p (yOf c))).1) 0 fd) $$ [Ho0 Hd0 HO HtS0 HtV0]
  · isplitr; · iexact HR
    isplitl [Ho0]; · iexact Ho0
    isplitl [Hd0]; · iexact Hd0
    isplitl [HO]; · iexact HO
    isplitl [HtS0] <;> iassumption
  iintro ⟨HcS0, HO⟩
  iapply (wp_send_chunk p m K c _ (Fin.ext (dev_send c (p (yOf c))).2.1) 1 fd) $$ [Ho1 Hd1 HO HtS1 HtV1]
  · isplitr; · iexact HR
    isplitl [Ho1]; · iexact Ho1
    isplitl [Hd1]; · iexact Hd1
    isplitl [HO]; · iexact HO
    isplitl [HtS1] <;> iassumption
  iintro ⟨HcS1, HO⟩
  iapply (wp_send_chunk p m K c _ (Fin.ext (dev_send c (p (yOf c))).2.2.1) 2 fd) $$ [Ho2 Hd2 HO HtS2 HtV2]
  · isplitr; · iexact HR
    isplitl [Ho2]; · iexact Ho2
    isplitl [Hd2]; · iexact Hd2
    isplitl [HO]; · iexact HO
    isplitl [HtS2] <;> iassumption
  iintro ⟨HcS2, HO⟩
  iapply (wp_send_chunk p m K c _ (Fin.ext (dev_send c (p (yOf c))).2.2.2) 3 fd) $$ [Ho3 Hd3 HO HtS3 HtV3]
  · isplitr; · iexact HR
    isplitl [Ho3]; · iexact Ho3
    isplitl [Hd3]; · iexact Hd3
    isplitl [HO]; · iexact HO
    isplitl [HtS3] <;> iassumption
  iintro ⟨HcS3, HO⟩
  rw [show debt p c (3 - (3 : Fin 4).val) = 0 from rfl]
  -- each chunk that arrives, widened into its lines of the result
  iapply (wp_wait_cell p m K c (.inr (.inr 0)) (credit_in 0) (wpE_waitDma2_eq Variants.none (c : Thread nD τ) none Set.univ) 0) $$ [HcV0 HO HaV0]
  · isplitr; · iexact HR
    isplitl [HcV0]; · iexact HcV0
    isplitl [HO]; · iexact HO
    isplitr; · rw [MayWait_zero]; iempintro
    iexact HaV0
  iintro ⟨HO, HzV0, Hpay⟩
  ihave Hi0 := (Entails.of_eq (show handed p m c (.inr (.inr 0)) = inPts c 0 (wire (xstg m (src p c))) from rfl)) $$ Hpay
  iapply (wp_load_chunk c 0 (wire (xstg m (src p c)))) $$ Hi0; iintro Hi0
  iapply (wp_load Variants.none (c : Thread nD τ) none Set.univ (m := oM) (Finset.subset_univ _)) $$ Hres; iintro Hres
  iapply (wp_store_rows c 0 (wire (xstg m (src p c))) (pay_widen _).1) $$ Hres; iintro Hres
  iapply (wp_wait_cell p m K c (.inr (.inr 1)) (credit_in 1) (wpE_waitDma2_eq Variants.none (c : Thread nD τ) none Set.univ) 0) $$ [HcV1 HO HaV1]
  · isplitr; · iexact HR
    isplitl [HcV1]; · iexact HcV1
    isplitl [HO]; · iexact HO
    isplitr; · rw [MayWait_zero]; iempintro
    iexact HaV1
  iintro ⟨HO, HzV1, Hpay⟩
  ihave Hi1 := (Entails.of_eq (show handed p m c (.inr (.inr 1)) = inPts c 1 (wire (xstg m (src p c))) from rfl)) $$ Hpay
  iapply (wp_load_chunk c 1 (wire (xstg m (src p c)))) $$ Hi1; iintro Hi1
  iapply (wp_load Variants.none (c : Thread nD τ) none Set.univ (m := oM) (Finset.subset_univ _)) $$ Hres; iintro Hres
  iapply (wp_store_rows c 1 (wire (xstg m (src p c))) (pay_widen _).2.1) $$ Hres; iintro Hres
  iapply (wp_wait_cell p m K c (.inr (.inr 2)) (credit_in 2) (wpE_waitDma2_eq Variants.none (c : Thread nD τ) none Set.univ) 0) $$ [HcV2 HO HaV2]
  · isplitr; · iexact HR
    isplitl [HcV2]; · iexact HcV2
    isplitl [HO]; · iexact HO
    isplitr; · rw [MayWait_zero]; iempintro
    iexact HaV2
  iintro ⟨HO, HzV2, Hpay⟩
  ihave Hi2 := (Entails.of_eq (show handed p m c (.inr (.inr 2)) = inPts c 2 (wire (xstg m (src p c))) from rfl)) $$ Hpay
  iapply (wp_load_chunk c 2 (wire (xstg m (src p c)))) $$ Hi2; iintro Hi2
  iapply (wp_load Variants.none (c : Thread nD τ) none Set.univ (m := oM) (Finset.subset_univ _)) $$ Hres; iintro Hres
  iapply (wp_store_rows c 2 (wire (xstg m (src p c))) (pay_widen _).2.2.1) $$ Hres; iintro Hres
  iapply (wp_wait_cell p m K c (.inr (.inr 3)) (credit_in 3) (wpE_waitDma2_eq Variants.none (c : Thread nD τ) none Set.univ) 0) $$ [HcV3 HO HaV3]
  · isplitr; · iexact HR
    isplitl [HcV3]; · iexact HcV3
    isplitl [HO]; · iexact HO
    isplitr; · rw [MayWait_zero]; iempintro
    iexact HaV3
  iintro ⟨HO, HzV3, Hpay⟩
  ihave Hi3 := (Entails.of_eq (show handed p m c (.inr (.inr 3)) = inPts c 3 (wire (xstg m (src p c))) from rfl)) $$ Hpay
  iapply (wp_load_chunk c 3 (wire (xstg m (src p c)))) $$ Hi3; iintro Hi3
  iapply (wp_load Variants.none (c : Thread nD τ) none Set.univ (m := oM) (Finset.subset_univ _)) $$ Hres; iintro Hres
  iapply (wp_store_rows c 3 (wire (xstg m (src p c))) (pay_widen _).2.2.2) $$ Hres; iintro Hres
  rw [received_all]
  -- the four copies done with the send buffer
  iapply (wp_wait_cell p m K c (.inr (.inl 0)) (credit_out 0) (wpE_waitDma2_eq Variants.none (c : Thread nD τ) none Set.univ) 0) $$ [HcS0 HO HaS0]
  · isplitr; · iexact HR
    isplitl [HcS0]; · iexact HcS0
    isplitl [HO]; · iexact HO
    isplitr; · rw [MayWait_zero]; iempintro
    iexact HaS0
  iintro ⟨HO, HzS0, Hpay⟩
  ihave Ho0 := (Entails.of_eq (show handed p m c (.inr (.inl 0)) = outPts c 0 (wire (xstg m c)) from rfl)) $$ Hpay
  iapply (wp_wait_cell p m K c (.inr (.inl 1)) (credit_out 1) (wpE_waitDma2_eq Variants.none (c : Thread nD τ) none Set.univ) 0) $$ [HcS1 HO HaS1]
  · isplitr; · iexact HR
    isplitl [HcS1]; · iexact HcS1
    isplitl [HO]; · iexact HO
    isplitr; · rw [MayWait_zero]; iempintro
    iexact HaS1
  iintro ⟨HO, HzS1, Hpay⟩
  ihave Ho1 := (Entails.of_eq (show handed p m c (.inr (.inl 1)) = outPts c 1 (wire (xstg m c)) from rfl)) $$ Hpay
  iapply (wp_wait_cell p m K c (.inr (.inl 2)) (credit_out 2) (wpE_waitDma2_eq Variants.none (c : Thread nD τ) none Set.univ) 0) $$ [HcS2 HO HaS2]
  · isplitr; · iexact HR
    isplitl [HcS2]; · iexact HcS2
    isplitl [HO]; · iexact HO
    isplitr; · rw [MayWait_zero]; iempintro
    iexact HaS2
  iintro ⟨HO, HzS2, Hpay⟩
  ihave Ho2 := (Entails.of_eq (show handed p m c (.inr (.inl 2)) = outPts c 2 (wire (xstg m c)) from rfl)) $$ Hpay
  iapply (wp_wait_cell p m K c (.inr (.inl 3)) (credit_out 3) (wpE_waitDma2_eq Variants.none (c : Thread nD τ) none Set.univ) 0) $$ [HcS3 HO HaS3]
  · isplitr; · iexact HR
    isplitl [HcS3]; · iexact HcS3
    isplitl [HO]; · iexact HO
    isplitr; · rw [MayWait_zero]; iempintro
    iexact HaS3
  iintro ⟨HO, HzS3, Hpay⟩
  ihave Ho3 := (Entails.of_eq (show handed p m c (.inr (.inl 3)) = outPts c 3 (wire (xstg m c)) from rfl)) $$ Hpay
  rw [wp_ret]; imodintro
  iapply Hk
  unfold bodyPost Φ₁ Dat.owesAt Pipeline.owesWithin owing
  rw [show (dats p m 0 c).owed t₀.succ = 0 from rfl, bigSep_cells, bigSep_four, bigSep_four]
  icases HO with ⟨%W', HO⟩
  isplitl [HzB HzS0 HzS1 HzS2 HzS3 HzV0 HzV1 HzV2 HzV3 Ho0 Ho1 Ho2 Ho3 Hi0 Hi1 Hi2 Hi3]
  · isplitl [HzB HzS0 HzS1 HzS2 HzS3 HzV0 HzV1 HzV2 HzV3]
    · isplitl [HzB]; · iexact HzB
      isplitl [HzS0 HzS1 HzS2 HzS3]
      · isplitl [HzS0]; · iexact HzS0
        isplitl [HzS1]; · iexact HzS1
        isplitl [HzS2] <;> iassumption
      · isplitl [HzV0]; · iexact HzV0
        isplitl [HzV1]; · iexact HzV1
        isplitl [HzV2] <;> iassumption
    isplitl [Ho0 Ho1 Ho2 Ho3]
    · iexists (wire (xstg m c))
      iapply (Entails.of_eq ((out_chunks c (wire (xstg m c))).trans (bigSep_four _)).symm)
      isplitl [Ho0]; · iexact Ho0
      isplitl [Ho1]; · iexact Ho1
      isplitl [Ho2] <;> iassumption
    · iexists (wire (xstg m (src p c)))
      iapply (Entails.of_eq ((in_chunks c (wire (xstg m (src p c)))).trans (bigSep_four _)).symm)
      isplitl [Hi0]; · iexact Hi0
      isplitl [Hi1]; · iexact Hi1
      isplitl [Hi2] <;> iassumption
  isplitl [HO]
  · iexists W'
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  iexists _; isplitr; · (ipureintro; rfl)
  iexact Hres

/-- The body's obligation to the pipeline, on any device. -/
theorem body_obligation (h : HasOrder p m) (c : Dev nD) :
    BodyObligation (dats (F := F) p m 0 c) (defs₀ (F := F)) Variants.none () Set.univ := fun t => by
  rw [fin_N t, show (Finset.univ : Finset (Fin cfg0.W)) = (Finset.univ : Finset (Fin 3)) from rfl, bigSep_W0, bigSep_W0]
  simp only [owns_whole_eq]
  show bodyPre p m c ⊢ wp frame (wpE (defs₀ (F := F)) Variants.none (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost p m c)
  iintro H
  iapply (sound_body p m h c fun _ => bodyPost p m c)
  isplitl [H]; · iexact H
  iintro H; iexact H

end Cert.Permute

end
-- ==== Proof.Run.lean ====
/- The launch: the nine cells of every device allocated together, their tokens dealt along the permutation, and the run of
   the whole program, for any float values and any permutation `p` the tables hold. -/
module

public import proofs.«01_k».proof.Proof.Body
public import Idealize.ShloMosaic.Lib.Pipeline.CollectiveSegs

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (p : YPerm) (m : (ℓ : Loc nD τ sig) → Buf (Elt F) ℓ) (ρ : Dev nD → PrngReg)

theorem ownSemFacts : Pipeline.OwnSemFacts cfg0.spec osem := by decide
theorem share_eq (c : Dev nD) (w : Fin cfg0.W) : (dats p m 0 c).share w = fullShare := by unfold Dat.share; split <;> rfl

/-! ## What the launch deals -/

def cells : Finset (GSem nD τ sig) := Finset.univ.map ⟨kcell, kcell_injective⟩
def tokens : Finset (GSem nD τ sig × ℕ × Unit) :=
  Finset.univ.map ⟨fun cj : Dev nD × (Unit ⊕ Own) => (kcell cj, 0, ()), fun _ _ h => kcell_injective (congrArg Prod.fst h)⟩

def u₀ : UU := (initOf (Pipeline.cells cfgs cellOf_inj) (Pipeline.launchToks cfgs cellOf_inj), initOf cells tokens)

/-- To device `c`: its cells' states, its positions at them, and their tokens. -/
def G (c : Dev nD) : sProp 𝕄 :=
  iprop((bigSep Finset.univ fun j => roundState ER (sched p m) (kcell (c, j)) 0)
    ∗ (bigSep Finset.univ fun j => iprop(atPos ER (kcell (c, j)) 0 ∅ 0 ∗ reached ER (kcell (c, j)) 0))
    ∗ bigSep Finset.univ fun j => dutyTok ER (kcell (c, j)) 0 ())

/-- What the allocation of all cells together makes of it. -/
def G' (c : Dev nD) : sProp 𝕄 := iprop(∃ K, records p m K ∗ linear p c)

theorem fund_cells : BI.own (ER (initOf cells tokens)) ⊢ (|==> bigSep Finset.univ (G p m) : sProp 𝕄) := by
  have hX (Φ : GSem nD τ sig → sProp 𝕄) : bigSep cells Φ = bigSep Finset.univ fun c : Dev nD => bigSep Finset.univ fun j => Φ (kcell (c, j)) := by
    unfold cells; rw [bigSep_map, bigSep_univ_prod]; rfl
  have hT : bigSep tokens (fun x => (dutyTok ER x.1 x.2.1 x.2.2 : sProp 𝕄))
      = bigSep Finset.univ fun c : Dev nD => bigSep Finset.univ fun j => dutyTok ER (kcell (c, j)) 0 () := by
    unfold tokens; rw [bigSep_map, bigSep_univ_prod]; rfl
  iintro HX
  imod (Rounds.fund ER (sched p m) cells tokens) $$ HX with ⟨Hst, Hr, Hat, Htok⟩
  imodintro
  ihave Hst' := (Entails.of_eq (hX fun g => roundState ER (sched p m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's own semaphores at zero are its eight; the barrier semaphore is the one beside them. -/
theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(unscopedSems0 c ∗ Pipeline.ownSems0 (Ix := Unit) (Name := ℕ) (U := UU) (Lvl := ℕ) (Val := Elt F) (τ := τ) osem c)
      = (bigSep Finset.univ fun j => semVal (kcell (c, j)) 0 : sProp 𝕄) := by
  rw [ownSems0_eq, unscopedSems0_eq, bigSep_cells]; rfl

theorem core_alloc (c : Dev nD) :
    iprop(Pipeline.ownSems0 (Ix := Unit) (Name := ℕ) (U := UU) (Lvl := ℕ) (Val := Elt F) (τ := τ) osem c ∗ unscopedSems0 c ∗ G p m c)
      ⊢ |={Set.univ}=> iprop((bigSep Finset.univ fun j => iprop(∃ κ : ℕ, cellInv ER (sched p m) κ (kcell (c, j))))
          ∗ (bigSep Finset.univ fun j => iprop(atPos ER (kcell (c, j)) 0 ∅ 0 ∗ reached ER (kcell (c, j)) 0))
          ∗ bigSep Finset.univ fun j => dutyTok ER (kcell (c, j)) 0 ()) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun j => semVal (kcell (c, j)) 0) ∗ bigSep Finset.univ fun j => roundState ER (sched p m) (kcell (c, j)) 0)
      ⊢ (|={Set.univ}=> bigSep Finset.univ fun j => iprop(∃ κ : ℕ, cellInv ER (sched p m) κ (kcell (c, j))) : sProp 𝕄) from by
        rw [← bigSep_sep']
        exact (bigSep_mono fun j _ => (Rounds.body_intro ER (sched p m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt along the permutation: a barrier's to the device it is signalled by, a receive cell's to the device it
    is filled by, a send cell's to its own. -/
theorem toks_around :
    (bigSep Finset.univ fun c : Dev nD => bigSep Finset.univ fun j => (dutyTok ER (kcell (c, j)) 0 () : sProp 𝕄))
      ⊢ bigSep Finset.univ fun c : Dev nD => payToks p c := by
  simp only [bigSep_cells, payToks, bigSep_sep']
  rw [bigSep_univ_equiv (around p).symm (fun c : Dev nD => (dutyTok ER (kcell (c, .inl ())) 0 () : sProp 𝕄)),
    bigSep_univ_equiv (around p) (fun c : Dev nD => bigSep Finset.univ fun k : Fin 4 => (dutyTok ER (kcell (c, .inr (.inr k))) 0 () : sProp 𝕄))]
  iintro ⟨H1, H2, H3⟩
  isplitl [H1]; · iexact H1
  isplitl [H2]; · iexact H2
  iexact H3

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (sched p m) κ (kcell (c, j))))
          ∗ (bigSep Finset.univ fun j => iprop(atPos ER (kcell (c, j)) 0 ∅ 0 ∗ reached ER (kcell (c, j)) 0))
          ∗ bigSep Finset.univ fun j => dutyTok ER (kcell (c, j)) 0 ()) : sProp 𝕄)
      ⊢ bigSep Finset.univ (G' p m) := by
  rw [bigSep_sep', bigSep_sep', ← bigSep_univ_prod (fun cj : Dev nD × (Unit ⊕ Own) => iprop(∃ κ : ℕ, cellInv ER (sched p m) κ (kcell cj))),
    bigSep_congr (s := Finset.univ) (fun (c : Dev nD) _ => bigSep_sep' Finset.univ (fun j => (atPos ER (kcell (c, j)) 0 ∅ 0 : sProp 𝕄)) (fun j => reached ER (kcell (c, j)) 0)),
    bigSep_sep', ← bigSep_univ_prod (fun cj : Dev nD × (Unit ⊕ Own) => (reached ER (kcell cj) 0 : sProp 𝕄))]
  iintro ⟨HI, ⟨Hat, #HR⟩, Htok⟩
  ihave HK := (BI.bigSep_exists_pi Finset.univ (fun (cj : Dev nD × (Unit ⊕ Own)) (κ : ℕ) => (cellInv ER (sched p m) κ (kcell cj) : sProp 𝕄))) $$ HI
  icases HK with ⟨%K, #HI⟩
  ihave Htk := (toks_around (F := F) p) $$ Htok
  iapply (bigSep_beside (R := records p m K) (Φ := linear p) fun c _ => show iprop(records p m K ∗ linear p c) ⊢ G' p m c from by
    unfold G'; iintro H; iexists K; iexact H)
  isplitr
  · unfold records; isplitl; · iexact HI
    iexact HR
  · iapply (Entails.of_eq (bigSep_sep' Finset.univ (fun c : Dev nD => bigSep Finset.univ fun j => (atPos ER (kcell (c, j)) 0 ∅ 0 : sProp 𝕄)) (payToks p)).symm)
    isplitl [Hat]; · iexact Hat
    iexact Htk

theorem glob : (bigSep Finset.univ fun c => iprop(Pipeline.ownSems0 (Ix := Unit) (Name := ℕ) (U := UU) (Lvl := ℕ) (Val := Elt F) (τ := τ) osem c
        ∗ unscopedSems0 c ∗ G p m c) : sProp 𝕄)
    ⊢ |={Set.univ}=> bigSep Finset.univ (G' p m) :=
  ((bigSep_mono fun c _ => core_alloc p m c).trans (bigSep_fupd _ _)).trans (BI.fupd_mono (regroup p m))

/-! ## The credit at launch: what all devices together owe a cell -/

theorem recv_ne_bar (a b : Dev nD) (k : Fin 4) : recvCell a k ≠ barCell b := fun h => by cases congrArg Prod.snd h

theorem debt_bar (d c : Dev nD) (n : ℕ) : debt p d n (barCell c) () = 0 := by
  by_contra h
  obtain ⟨k, hk⟩ := debt_pos p (Nat.pos_of_ne_zero h)
  exact recv_ne_bar _ _ k hk.symm

theorem debt_recv (d c : Dev nD) (k : Fin 4) : debt p d 4 (recvCell c k) () = if d = src p c then N else 0 := by
  have e (j : Fin 4) : recvCell c k = recvCell (dst p d) j ∧ (() : Unit) = () ↔ d = src p c ∧ k = j := by
    rw [recv_eq_iff, ← dst_eq_iff (d := d) (c := c)]
    exact ⟨fun h => ⟨h.1.1.symm, h.1.2⟩, fun h => ⟨⟨h.1.symm, h.2⟩, rfl⟩⟩
  show (((((0 : CellTallies nD τ sig Unit) + tallyAt (recvCell (dst p d) 3) () N) + tallyAt (recvCell (dst p d) 2) () N)
    + tallyAt (recvCell (dst p d) 1) () N) + tallyAt (recvCell (dst p d) 0) () N) (recvCell c k) () = _
  rw [Pi.add_apply, Pi.add_apply, Pi.add_apply, Pi.add_apply, Finsupp.add_apply, Finsupp.add_apply, Finsupp.add_apply, Finsupp.add_apply,
    tallyAt_apply, tallyAt_apply, tallyAt_apply, tallyAt_apply, if_congr (e 0) rfl rfl, if_congr (e 1) rfl rfl, if_congr (e 2) rfl rfl,
    if_congr (e 3) rfl rfl]
  by_cases hd : d = src p c
  · fin_cases k <;> simp [hd]
  · simp [hd]

theorem owed_bar (d c : Dev nD) : O₀ p d (barCell c) () = if d = dst p c then 1 else 0 := by
  unfold O₀
  rw [Pi.add_apply, Finsupp.add_apply, debt_bar, tallyAt_apply, Nat.zero_add]
  refine if_congr ?_ rfl rfl
  rw [bar_eq_iff, ← src_eq_iff]
  exact ⟨fun h => h.1.symm, fun h => ⟨h.symm, rfl⟩⟩

theorem owed_recv (d c : Dev nD) (k : Fin 4) : O₀ p d (recvCell c k) () = if d = src p c then N else 0 := by
  unfold O₀
  rw [Pi.add_apply, Finsupp.add_apply, debt_recv, tallyAt_ne_cell (recv_ne_bar _ _ k), Finsupp.zero_apply, Nat.add_zero]

/-- What the launch credits a cell with, every device owing it `n` of one. -/
theorem launch_cell (g : GSem nD τ sig) (e : Dev nD) (n : ℕ) (h : ∀ d : Dev nD, O₀ p d g () = if d = e then n else 0) :
    tallyOn g (launchCredit (Pipeline.owing (O₀ p)) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ e fun _ => n,
    if_pos (Finset.mem_univ _)]

omit [FloatOps F] in
theorem creds (c : Dev nD) : (Pipeline.launchCred (O₀ p) c : sProp 𝕄) ⊢ credits c := by
  unfold Pipeline.launchCred credits
  rw [bigSep_univ_at _ (SemLoc.reg barS)]
  have hsub : (Finset.univ.map ⟨fun k : Fin 4 => (SemLoc.dma (recvQ k) : SemLoc sig), by decide⟩ : Finset (SemLoc sig)) ⊆ Finset.univ.erase (SemLoc.reg barS) := by
    decide
  refine BIClass.sep_mono (Entails.of_eq (congrArg cred (launch_cell p _ (dst p c) 1 fun d => owed_bar p d c)))
    (show _ ⊢ _ from (show _ ⊢ _ from BI.bigSep_subset hsub).trans (Entails.of_eq ?_))
  rw [BI.bigSep_map]
  exact bigSep_congr fun k _ => congrArg cred (launch_cell p _ (src p c) N fun d => owed_recv p d c k)

/-! ## The run -/

theorem start_intro (c : Dev nD) :
    iprop(Pipeline.unscopedRestP Pipeline.Prefetch.none cfg0.spec c (fun b => m ((c : Thread nD τ).loc b)) ∗ levAts L lv
        ∗ Pipeline.launchCred (O₀ p) c ∗ prngReg c (ρ c) ∗ G' p m c)
      ⊢ |={Set.univ}=> iprop(start p m c ∗ emp) := by
  iintro ⟨-, Hlev, Hcr, -, HG⟩
  ihave Hc := (creds (F := F) p c) $$ Hcr
  imodintro
  unfold start G'
  isplitl
  · isplitl [HG]; · iexact HG
    isplitl [Hc] <;> iassumption
  · iempintro

theorem phi0_intro (c : Dev nD) :
    iprop(start p m c ∗ Pipeline.prefHeld Pipeline.Prefetch.none c (fun _ => fullShare.right) (fun k => k.elim0) ∗ Pipeline.scopedRest cfg0.spec c)
      ⊢ (dats p m 0 c).Φ 0 := by
  rw [show (dats p m 0 c).Φ 0 = Φ₀ p m c from rfl, scopedRest0_eq]
  unfold Φ₀
  iintro ⟨Hs, -, Hr⟩
  isplitl [Hs] <;> iassumption

theorem phi1_exit (c : Dev nD) :
    (dats p m 0 c).Φ (Fin.last cfg0.N) ⊢ iprop(unscopedSems0 c ∗ Pipeline.ownSems0 osem c ∗ Pipeline.scopedRest cfg0.spec c) := by
  rw [show (dats p m 0 c).Φ (Fin.last cfg0.N) = Φ₁ c from rfl, scopedRest0_eq]
  unfold Φ₁
  rw [← sems0_eq]
  iintro ⟨⟨Hu, Ho⟩, Hr⟩
  isplitl [Hu]; · iexact Hu
  isplitl [Ho] <;> iassumption

theorem waits (c : Dev nD) : (levAts L lv : sProp 𝕄) ⊢ Pipeline.cellsWaits cfgs (dats p m) () 0 c :=
  Pipeline.cellsWaits_intro cfgs (dats p m) () 0 c fun w s t =>
    mayWait_stage p c _ (by fin_cases w <;> fin_cases s <;> decide) _ (by
      rcases t with ⟨_ | _, ht⟩
      · exact Or.inl rfl
      · exact Or.inr rfl)

/-- What an argument's or the result's array holds at the end. -/
def finalA (c : Dev nD) (w : Fin cfg0.W) : Buf (Elt F) ((cfg0.win w).arr.view.loc (c : Thread nD τ)) := (dats p m 0 c).arrAt w cfg0.N

set_option maxRecDepth 8000 in
/-- From tables that hold the permutation `p`, every fair execution ends, with every semaphore at zero. -/
theorem run_arrays (h : HasOrder p m) :
    θ_run defs (onTc (τ := τ) (main (F := F))) ⟨m, fun _ => 0, ρ⟩ (fun r =>
      (∀ c : Dev nD, ∀ w : Fin cfg0.W, r.2.mem ((cfg0.win w).arr.view.loc (c : Thread nD τ)) = finalA p m c w) ∧ r.2.sem = fun _ => 0) :=
  Pipeline.θ_run_region_owing_glob_pf (fun q => (cfgs q).toPCfg) (fun q => (cfgs q).toPCfg_adm) (dats p m) () cellOf_inj (0 : Fin 1)
    winFacts0.to₀ ownSemFacts (Pipeline.PreFacts.none _) EP defs₀ Variants.none m ρ main
    (hmain := fun _ => rfl)
    (hbody := body_obligation p m h) (hne := block_pos0) (harr := arr_whole0) (hstage := stage_whole0) (hshare := share_eq p m)
    (hdistinct := winFacts0.arr_inj)
    (O₀ := O₀ p) (howed₀ := fun _ => rfl) (howedN := fun _ => rfl)
    (L := L) (lv := lv) (hL := L_of_ne) (hwaits := waits p m)
    (G := G p m) (G' := G' p m) (u₀ := u₀)
    (hu₀ := by
      unfold u₀
      iintro Hu
      ihave H := (ownU_pair _ _) $$ Hu
      icases H with ⟨HP, HX⟩
      imod (fund_cells p m) $$ HX with HG
      imodintro
      isplitl [HP] <;> iassumption)
    (hglob := glob p m)
    (hA := fun _ _ => rfl) (hpf := fun _ k => k.elim0)
    (X := start p m) (Y := fun c => unscopedSems0 c) (Z := fun _ => iprop(emp))
    (hX := start_intro p m ρ) (hin := phi0_intro p m) (hout := phi1_exit p m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem finalA_x (c : Dev nD) : finalA p m c (0 : Fin 3) = m ((c : Thread nD τ).loc main_arg0) :=
  (dats (F := F) p m 0 c).arrAt_in (0 : Fin 3) rfl _
theorem finalA_t (c : Dev nD) : finalA p m c (1 : Fin 3) = m ((c : Thread nD τ).loc main_arg1) :=
  (dats (F := F) p m 0 c).arrAt_in (1 : Fin 3) rfl _

theorem finalA_res (c : Dev nD) : (win0_2.blk (0 : Fin 1)).view.read (Elt F) (finalA p m c (2 : Fin 3)) = outAt p m c := by
  unfold finalA
  rw [show cfg0.N = ((0 : Fin 1) : Fin cfg0.N).val + 1 from rfl, (dats p m 0 c).arrAt_succ (2 : Fin 3) (0 : Fin 1)]
  rw [show (cfg0.win (2 : Fin 3)).flush (0 : Fin 1) = true from by decide, if_pos rfl]
  exact View.read_write_univ _ _

theorem read_res (f : (main_v1 : Ref sig .tc).ty.Contents (Elt F)) : (win0_2.blk (0 : Fin 1)).view.read (Elt F) f = f :=
  Memref.read_access_unit_zero (Elt F) main_v1
    (show (fun a => (win0_2.index (0 : Fin 1)) a * main_v1.ty.shape.size a) = fun _ => 0 from funext fun a => by fin_cases a <;> decide)
    (fun a => by fin_cases a <;> decide) f
theorem read_x (f : (main_arg0 : Ref sig .tc).ty.Contents (Elt F)) : (win0_0.blk (0 : Fin 1)).view.read (Elt F) f = f :=
  Memref.read_access_unit_zero (Elt F) main_arg0
    (show (fun a => (win0_0.index (0 : Fin 1)) a * main_arg0.ty.shape.size a) = fun _ => 0 from funext fun a => by fin_cases a <;> decide)
    (fun a => by fin_cases a <;> decide) f

/-- The block a device receives, through the wire: each element rounded to bf16 and widened again. -/
def received (c : Dev nD) : S1x512x512.Idx → Elt F .f32 :=
  extf .f32 (truncf .bf16 (fun i : S1x512x512.Idx => (m ((src p c : Thread nD τ).loc main_arg0) : S1x512x512.Idx → Elt F .f32) i) bitsLt_bf16_f32) bitsLt_bf16_f32

/-- The run: the result on each device is the block it received, the arguments are what they were, the semaphores zero. -/
theorem run_main (h : HasOrder p m) :
    θ_run defs (onTc (τ := τ) (main (F := F))) ⟨m, fun _ => 0, ρ⟩ (fun r =>
      (∀ c : Dev nD, r.2.mem ((c : Thread nD τ).loc main_v1) = received p m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun r hr => ⟨fun c => ⟨by
      have e := (read_res (F := F) (r.2.mem ((c : Thread nD τ).loc main_v1))).symm
      rw [e, show r.2.mem ((c : Thread nD τ).loc main_v1) = finalA p m c (2 : Fin 3) from hr.1 c (2 : Fin 3), finalA_res]
      unfold outAt xstg received
      rw [unwire_wire, read_x],
    (hr.1 c (0 : Fin 3)).trans (finalA_x p m c), (hr.1 c (1 : Fin 3)).trans (finalA_t p m c)⟩, hr.2⟩) (run_arrays p m ρ h)

end Cert.Permute

end
-- ==== Proof.Reference.lean ====
/- The reference on its one device: with the permutation `p` in the table, `argsort` is the inverse of `p`, so block `y` of the
   result is block `p⁻¹(y)` of `x`; and what that says of the blocks the mesh's devices hold. -/
module

public import proofs.«01_k».proof.Proof.Peers
public import proofs.«01_k».proof.Proof.Gen.ReferenceIdeal.Run
public import Idealize.ShloMosaic.Lib.Layout
public import Idealize.ShloMosaic.Lib.Quiescent
public import Mathlib.Data.Fintype.Perm

@[expose] public section

noncomputable section

namespace Cert.Permute.Reference

open Cert.ReferenceIdeal Cert.ReferenceIdeal.Gen Cert.ReferenceIdeal.Value

open Idealize.ShloMosaic
open Idealize.ShloMosaic.TcCoe
open Idealize.SL.Sem

variable {F : FTy → Type} [FloatOps F]

/-- The place of `y` in an array of four. -/
def at4 (y : Fin 4) : S4.Idx := fun a => ⟨y.val, by fin_cases a; exact y.isLt⟩

theorem at4_zero (i : S4.Idx) : at4 (i 0) = i := funext fun a => by fin_cases a; rfl

/-- The place of element `j` of the result in `x`, the first coordinate replaced by `y`. -/
def inBlock (y : Fin 4) (j : S4x512x512.Idx) : S4x512x512.Idx := fun a => match a with
  | ⟨0, _⟩ => y
  | ⟨1, _⟩ => j 1
  | ⟨2, _⟩ => j 2

/-- Sorting the positions by the words a permutation gives them is inverting the permutation. -/
theorem sorted_inverse : ∀ (p : YPerm) (y : Fin 4),
    sortedFrom (fun k k' => IntOp.cmpi .slt (yWord (p k)) (yWord (p k')) == 1#1) y = p.symm y := by
  decide +kernel

/-- The reference's `argsort` of a table that holds `p`. -/
theorem argsort_at (p : YPerm) (t : S4.Idx → BitVec 32) (h : ∀ y, t (at4 y) = yWord (p y)) (y : Fin 4) :
    (Host.sort2 S4 0 comparator_i32_i32_d0 t (iotaInDim S4 32 0)).2 (at4 y) = yWord (p.symm y) := by
  have e (k : Fin 4) : (at4 y).along 0 k = at4 k := funext fun a => by
    fin_cases a; exact Function.update_self _ _ _
  have hb : (fun k k' : Fin 4 => comparator_i32_i32_d0 (t ((at4 y).along 0 k), iotaInDim S4 32 0 ((at4 y).along 0 k))
        (t ((at4 y).along 0 k'), iotaInDim S4 32 0 ((at4 y).along 0 k')) == 1#1)
      = fun k k' => IntOp.cmpi .slt (yWord (p k)) (yWord (p k')) == 1#1 :=
    funext fun k => funext fun k' => by rw [e, e, ← h k, ← h k']; rfl
  show iotaInDim S4 32 0 ((at4 y).along 0 (sortedFrom (n := 4) (fun k k' : Fin 4 => comparator_i32_i32_d0 (t ((at4 y).along 0 k), iotaInDim S4 32 0 ((at4 y).along 0 k))
        (t ((at4 y).along 0 k'), iotaInDim S4 32 0 ((at4 y).along 0 k')) == 1#1) y)) = _
  rw [hb, sorted_inverse, e]
  rfl

/-- A place in range is not wrapped. -/
theorem wrapped : ∀ y : Fin 4, Scalar.select (IntOp.cmpi .slt (yWord y) 0#32) (IntOp.addi (yWord y) 4#32) (yWord y) = yWord y := by
  decide

/-- The place of `y` in the column of start indices. -/
def col (y : Fin 4) : S4x1.Idx := fun a => match a with
  | ⟨0, _⟩ => y
  | ⟨1, _⟩ => (0 : Fin 1)

/-- The start indices that the reference computes from the table. -/
def starts (t : S4.Idx → BitVec 32) : S4x1.Idx → BitVec 32 :=
  broadcastInDim S4x1 ![0] bcast_S4_S4x1_0
    (select (cmpi .slt ((Host.sort2 S4 0 comparator_i32_i32_d0 t (iotaInDim S4 32 0)).2) (broadcastInDim S4 ![] bcast_S_S4 (constantI S_ 32 0#32)))
      (addi ((Host.sort2 S4 0 comparator_i32_i32_d0 t (iotaInDim S4 32 0)).2) (broadcastInDim S4 ![] bcast_S_S4 (constantI S_ 32 4#32)))
      ((Host.sort2 S4 0 comparator_i32_i32_d0 t (iotaInDim S4 32 0)).2))

theorem starts_at (p : YPerm) (t : S4.Idx → BitVec 32) (h : ∀ y, t (at4 y) = yWord (p y)) (y : Fin 4) :
    starts t (col y) = yWord (p.symm y) := by
  unfold starts
  have e := argsort_at p t h y
  generalize (Host.sort2 S4 0 comparator_i32_i32_d0 t (iotaInDim S4 32 0)).2 = a at e ⊢
  have hc : broadcastInDim S4x1 ![0] bcast_S4_S4x1_0 (select (cmpi .slt a (broadcastInDim S4 ![] bcast_S_S4 (constantI S_ 32 0#32)))
      (addi a (broadcastInDim S4 ![] bcast_S_S4 (constantI S_ 32 4#32))) a) (col y)
      = Scalar.select (IntOp.cmpi .slt (a (at4 y)) 0#32) (IntOp.addi (a (at4 y)) 4#32) (a (at4 y)) := by
    unfold broadcastInDim
    have ha : (fun b : Fin S4.rank => if h1 : S4.size b = 1 then (⟨0, by omega⟩ : Fin (S4.size b))
        else ⟨(col y ((![0] : Fin 1 → Fin 2) b)).val, by fin_cases b; exact y.isLt⟩) = at4 y :=
      funext fun b => by fin_cases b; rfl
    exact congrArg (fun i : S4.Idx => Scalar.select (IntOp.cmpi .slt (a i) 0#32) (IntOp.addi (a i) 4#32) (a i)) ha
  rw [hc, e, wrapped]

/-- The gather, at one element: the block named by the start index of the element's own block. -/
theorem gather_at {α : Type} (x : S4x512x512.Idx → α) (idx : S4x1.Idx → BitVec 32) (j : S4x512x512.Idx) (y : Fin 4)
    (h : idx (col (j 0)) = yWord y) :
    Host.gather gather_S4x512x512_S4x1_S4x512x512_12_0_n_n_0_1_1512512 x idx j = x (inBlock y j) := by
  unfold Host.gather
  refine congrArg x (funext fun a => Fin.ext ?_)
  show (gather_S4x512x512_S4x1_S4x512x512_12_0_n_n_0_1_1512512 : GatherDims _ _ _).start j idx a
    + GatherDims.batchCoord _ j a + GatherDims.offCoord _ j a = _
  rw [GatherDims.batchCoord_eq_zero _ _ _ List.not_mem_nil, Nat.add_zero]
  have h012 : a = 0 ∨ a = 1 ∨ a = 2 := by revert a; decide
  rcases h012 with rfl | rfl | rfl
  · rw [GatherDims.offCoord_eq_zero _ _ _ (fun h => ((GatherDims.mem_sKept _ _).mp h).1 (List.mem_singleton.mpr rfl)), Nat.add_zero]
    unfold GatherDims.start
    refine (dif_pos (List.mem_singleton.mpr rfl : (0 : Fin 3) ∈ [(0 : Fin 3)])).trans ?_
    have hs : GatherDims.siIdx gather_S4x512x512_S4x1_S4x512x512_12_0_n_n_0_1_1512512 j ⟨List.idxOf (0 : Fin 3) [(0 : Fin 3)],
        List.idxOf_lt_length_iff.2 (List.mem_singleton.mpr rfl)⟩ = col (j 0) := by
      funext b; refine Fin.ext ?_
      match b with
      | ⟨0, _⟩ => rfl
      | ⟨1, _⟩ => rfl
    refine (congrArg (fun w : BitVec 32 => min w.toInt.toNat (4 - 1)) ((congrArg idx hs).trans h)).trans ?_
    exact (by decide : ∀ y : Fin 4, min (yWord y).toInt.toNat 3 = y.val) y
  · have h0 : (1 : Fin 3) ∉ [(0 : Fin 3)] := by decide
    refine (congrArg (· + _) (dif_neg h0 : GatherDims.start gather_S4x512x512_S4x1_S4x512x512_12_0_n_n_0_1_1512512 j idx _ = 0)).trans ?_
    rw [Nat.zero_add]
    rfl
  · have h0 : (2 : Fin 3) ∉ [(0 : Fin 3)] := by decide
    refine (congrArg (· + _) (dif_neg h0 : GatherDims.start gather_S4x512x512_S4x1_S4x512x512_12_0_n_n_0_1_1512512 j idx _ = 0)).trans ?_
    rw [Nat.zero_add]
    rfl

/-- The array whose block `y` is block `p⁻¹(y)` of `x`. -/
def permuted {α : Type} (p : YPerm) (x : S4x512x512.Idx → α) : S4x512x512.Idx → α := fun j => x (inBlock (p.symm (j 0)) j)

/-- The reference's run: its arguments unchanged, no semaphore left. -/
theorem run_quiet (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (run m ρ)

/-- Its result, when the table holds the permutation `p`. -/
theorem run_permuted (p : YPerm) (m : (ℓ : Loc nD τ sig) → Buf (Elt F) ℓ) (ρ : Dev nD → PrngReg)
    (h : ∀ y, (m (((0 : Dev nD).tc : Thread nD τ).loc main_arg1) : S4.Idx → BitVec 32) (at4 y) = yWord (p y)) :
    θ_run defs (onTc (τ := τ) (main (F := F))) ⟨m, fun _ => 0, ρ⟩ (fun r =>
      r.2.mem (((0 : Dev nD).tc : Thread nD τ).loc main_v7) = permuted p (m (((0 : Dev nD).tc : Thread nD τ).loc main_arg0) : S4x512x512.Idx → Elt F .f32)
        ∧ r.2.mem (((0 : Dev nD).tc : Thread nD τ).loc main_arg0) = m (((0 : Dev nD).tc : Thread nD τ).loc main_arg0)
        ∧ r.2.mem (((0 : Dev nD).tc : Thread nD τ).loc main_arg1) = m (((0 : Dev nD).tc : Thread nD τ).loc main_arg1)) :=
  (θ_run defs _ _).mono (fun r hr => ⟨Eq.trans
      (show r.2.mem (((0 : Dev nD).tc : Thread nD τ).loc main_v7)
        = Host.gather gather_S4x512x512_S4x1_S4x512x512_12_0_n_n_0_1_1512512 (m (((0 : Dev nD).tc : Thread nD τ).loc main_arg0))
            (starts (m (((0 : Dev nD).tc : Thread nD τ).loc main_arg1))) from (hr 0).1)
      (funext fun j => gather_at _ _ j (p.symm (j 0)) (starts_at p _ h (j 0))), (hr 0).2⟩) (run m ρ)

/-- The block that device `c` holds of the permuted array is the block that the device it receives from holds of `x`. -/
theorem block_permuted {α : Type} (p : YPerm) (x : S4x512x512.Idx → α) (c : Dev Cert.KernelIdeal.nD) :
    Layout.blockN ⟨3, ![1, 512, 512]⟩ ⟨3, ![4, 512, 512]⟩ (Layout.meshBlock [2, 4, 4] ![[1], [], []] c) (permuted p x)
      = Layout.blockN ⟨3, ![1, 512, 512]⟩ ⟨3, ![4, 512, 512]⟩ (Layout.meshBlock [2, 4, 4] ![[1], [], []] (src p c)) x := by
  funext i
  have hi : (i 0).val = 0 := by have h : (i 0).val < 1 := (i 0).isLt; omega
  refine congrArg x (funext fun a => ?_)
  have h012 : a = 0 ∨ a = 1 ∨ a = 2 := by revert a; decide
  rcases h012 with rfl | rfl | rfl
  · have e : (⟨(c.val / 4 % 4 * 1 + 0) * 1 + (i 0).val, by omega⟩ : Fin 4) = yOf c :=
      Fin.ext (by show (c.val / 4 % 4 * 1 + 0) * 1 + (i 0).val = c.val / 4 % 4; omega)
    refine (congrArg p.symm e).trans (Fin.ext ?_)
    show (p.symm (yOf c)).val = ((yOf (src p c)).val * 1 + 0) * 1 + (i 0).val
    rw [show yOf (src p c) = p.symm (yOf c) from yOf_atY _ _]
    omega
  · rfl
  · rfl

end Cert.Permute.Reference

end
-- ==== Proof.Claims.lean ====
/- The claims, once for every order of 0, 1, 2, 3: what a certificate of 24 preconditions says, stated over the literal table
   `lit` that a precondition compares the devices' tables with. -/
module

public import proofs.«01_k».proof.Defs
public import proofs.«01_k».proof.Proof.Run
public import proofs.«01_k».proof.Proof.Reference
public import proofs.«01_k».proof.Proof.Gen.Kernel

@[expose] public section

noncomputable section

namespace Cert.Permute

open Cert.KernelIdeal Cert.KernelIdeal.Gen

open Idealize.ShloMosaic
open Idealize.ShloMosaic.TcCoe
open Idealize.SL.Sem

variable {F : FTy → Type} [FloatOps F]

/-- The literal table lists a permutation's values. -/
def IsOrder (lit : Fin 4 → BitVec 32) : Prop := ∃ p : YPerm, ∀ y, lit y = yWord (p y)

instance (lit : Fin 4 → BitVec 32) : Decidable (IsOrder lit) := inferInstanceAs (Decidable (∃ p : YPerm, ∀ y, lit y = yWord (p y)))

/-- Every device's table is `lit`, in the words of a precondition. -/
def Holds (lit : Fin 4 → BitVec 32) (m : (ℓ : Loc nD τ sig) → Buf (Elt F) ℓ) : Prop :=
  ∀ c : Dev nD, (cmpi .eq (m ((c.tc : Thread nD τ).loc main_arg1)) (fun i : S4.Idx => lit (S4.rowMajor i)) : IVec S4 1) = fun _ => 1#1

theorem eq_of_cmpi {a b : BitVec 32} (h : IntOp.cmpi .eq a b = 1#1) : a = b := by
  by_contra hne
  have h0 : IntOp.cmpi .eq a b = 0#1 := by
    show BitVec.ofBool (a == b) = 0#1
    rw [beq_eq_false_iff_ne.2 hne]; rfl
  rw [h0] at h
  exact absurd h (by decide)

theorem rowMajor_entry (y : Fin 4) : (S4.rowMajor (entry y) : Fin 4) = y := by fin_cases y <;> rfl

theorem hasOrder {lit : Fin 4 → BitVec 32} {p : YPerm} (hp : ∀ y, lit y = yWord (p y)) {m : (ℓ : Loc nD τ sig) → Buf (Elt F) ℓ} (h : Holds lit m) :
    HasOrder p m := fun c y =>
  (eq_of_cmpi (congrFun (h c) (entry y))).trans ((congrArg lit (rowMajor_entry y)).trans (hp y))

/-- The kernel ends with its arguments unchanged and every semaphore at zero, for any float values. -/
theorem kernel_frame {lit : Fin 4 → BitVec 32} (hl : IsOrder lit) (m : (ℓ : Loc nD τ sig) → Buf (Elt F) ℓ) (g : Dev nD → PrngReg) (h : Holds lit m) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  obtain ⟨p, hp⟩ := hl
  exact (θ_run defs _ _).mono (fun r hr => ⟨fun c => (hr.1 c).2, hr.2⟩) (run_main p m g (hasOrder hp h))

/-! ## The kernel as printed: the same text under its own names -/

theorem same_bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem same_defs : Cert.Kernel.defs (F := F) = Cert.KernelIdeal.defs (F := F) := by
  unfold Cert.Kernel.defs Cert.KernelIdeal.defs
  rw [same_bodies]
  rfl

/-- `kernel_frame` for the kernel as printed. -/
theorem printed_frame {lit : Fin 4 → BitVec 32} (hl : IsOrder lit) (m : (ℓ : Loc Cert.Kernel.nD Cert.Kernel.τ Cert.Kernel.sig) → Buf (Elt F) ℓ)
    (g : Dev Cert.Kernel.nD → PrngReg)
    (h : ∀ c : Dev Cert.Kernel.nD, (cmpi .eq (m ((c.tc : Thread Cert.Kernel.nD Cert.Kernel.τ).loc Cert.Kernel.main_arg1))
      (fun i : S4.Idx => lit (S4.rowMajor i)) : IVec S4 1) = fun _ => 1#1) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [same_defs]
  exact kernel_frame hl m g h

/-! ## The value -/

/-- Over the reals, what the kernel leaves on the mesh and what the reference leaves on its one device are one array. -/
theorem kernel_reference {lit : Fin 4 → BitVec 32} (hl : IsOrder lit) (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (h : Holds lit m)
    (hm : ∀ c : Dev nD,
      m ((c.tc : Thread nD τ).loc main_arg0) = Layout.blockN ⟨3, ![1, 512, 512]⟩ ⟨3, ![4, 512, 512]⟩ (Layout.meshBlock [2, 4, 4] ![[1], [], []] c)
        (m' (((0 : Dev Cert.ReferenceIdeal.nD).tc : Thread Cert.ReferenceIdeal.nD Cert.ReferenceIdeal.τ).loc Cert.ReferenceIdeal.main_arg0))
      ∧ m ((c.tc : Thread nD τ).loc main_arg1)
        = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (defs (F := Ideal)) (onTc (τ := τ) (main (F := Ideal))) ⟨m, fun _ => 0, g⟩ (fun r => ∀ c : Dev nD,
          r.2.mem ((c.tc : Thread nD τ).loc main_v1) = Layout.blockN ⟨3, ![1, 512, 512]⟩ ⟨3, ![4, 512, 512]⟩ (Layout.meshBlock [2, 4, 4] ![[1], [], []] c) v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m' (((0 : Dev Cert.ReferenceIdeal.nD).tc : Thread Cert.ReferenceIdeal.nD Cert.ReferenceIdeal.τ).loc Cert.ReferenceIdeal.main_arg1)) := by
  obtain ⟨p, hp⟩ := hl
  have ho : HasOrder p m := hasOrder hp h
  refine ⟨Reference.permuted p (m' (((0 : Dev Cert.ReferenceIdeal.nD).tc : Thread Cert.ReferenceIdeal.nD Cert.ReferenceIdeal.τ).loc Cert.ReferenceIdeal.main_arg0)
      : Cert.ReferenceIdeal.S4x512x512.Idx → Elt Ideal .f32), ?_, ?_⟩
  · refine (θ_run defs _ _).mono (fun r hr c => ⟨?_, (hr.1 c).2⟩) (run_main p m g ho)
    rw [Reference.block_permuted]
    refine (hr.1 c).1.trans (Eq.trans ?_ (hm (src p c)).1)
    rfl
  · refine Reference.run_permuted p m' g' fun y => ?_
    have e := ho 0 y
    rw [(hm 0).2] at e
    exact e

end Cert.Permute

end
-- ==== Proof.lean ====
/- The certificate: `Cert.Claim` from the lemmas of Proof/Claims.lean, which are stated once for every order that the table can
   hold. Each of the 24 preconditions compares the table with a literal; that the literal lists a permutation is decided. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import proofs.«01_k».proof.Proof.Gen.Pre_pi_0123_Kernel
public import proofs.«01_k».proof.Proof.Gen.Pre_pi_0132_Kernel
public import proofs.«01_k».proof.Proof.Gen.Pre_pi_0213_Kernel
public import proofs.«01_k».proof.Proof.Gen.Pre_pi_0231_Kernel
public import proofs.«01_k».proof.Proof.Gen.Pre_pi_0312_Kernel
public import proofs.«01_k».proof.Proof.Gen.Pre_pi_0321_Kernel
public import proofs.«01_k».proof.Proof.Gen.Pre_pi_1023_Kernel
public import proofs.«01_k».proof.Proof.Gen.Pre_pi_1032_Kernel
public import proofs.«01_k».proof.Proof.Gen.Pre_pi_1203_Kernel
public import proofs.«01_k».proof.Proof.Gen.Pre_pi_1230_Kernel
public import proofs.«01_k».proof.Proof.Gen.Pre_pi_1302_Kernel
public import proofs.«01_k».proof.Proof.Gen.Pre_pi_1320_Kernel
public import proofs.«01_k».proof.Proof.Gen.Pre_pi_2013_Kernel
public import proofs.«01_k».proof.Proof.Gen.Pre_pi_2031_Kernel
public import proofs.«01_k».proof.Proof.Gen.Pre_pi_2103_Kernel
public import proofs.«01_k».proof.Proof.Gen.Pre_pi_2130_Kernel
public import proofs.«01_k».proof.Proof.Gen.Pre_pi_2301_Kernel
public import proofs.«01_k».proof.Proof.Gen.Pre_pi_2310_Kernel
public import proofs.«01_k».proof.Proof.Gen.Pre_pi_3012_Kernel
public import proofs.«01_k».proof.Proof.Gen.Pre_pi_3021_Kernel
public import proofs.«01_k».proof.Proof.Gen.Pre_pi_3102_Kernel
public import proofs.«01_k».proof.Proof.Gen.Pre_pi_3120_Kernel
public import proofs.«01_k».proof.Proof.Gen.Pre_pi_3201_Kernel
public import proofs.«01_k».proof.Proof.Gen.Pre_pi_3210_Kernel
public import proofs.«01_k».proof.Proof.Gen.Pre_pi_0123_ReferenceIdeal
public import proofs.«01_k».proof.Proof.Gen.Pre_pi_0132_ReferenceIdeal
public import proofs.«01_k».proof.Proof.Gen.Pre_pi_0213_ReferenceIdeal
public import proofs.«01_k».proof.Proof.Gen.Pre_pi_0231_ReferenceIdeal
public import proofs.«01_k».proof.Proof.Gen.Pre_pi_0312_ReferenceIdeal
public import proofs.«01_k».proof.Proof.Gen.Pre_pi_0321_ReferenceIdeal
public import proofs.«01_k».proof.Proof.Gen.Pre_pi_1023_ReferenceIdeal
public import proofs.«01_k».proof.Proof.Gen.Pre_pi_1032_ReferenceIdeal
public import proofs.«01_k».proof.Proof.Gen.Pre_pi_1203_ReferenceIdeal
public import proofs.«01_k».proof.Proof.Gen.Pre_pi_1230_ReferenceIdeal
public import proofs.«01_k».proof.Proof.Gen.Pre_pi_1302_ReferenceIdeal
public import proofs.«01_k».proof.Proof.Gen.Pre_pi_1320_ReferenceIdeal
public import proofs.«01_k».proof.Proof.Gen.Pre_pi_2013_ReferenceIdeal
public import proofs.«01_k».proof.Proof.Gen.Pre_pi_2031_ReferenceIdeal
public import proofs.«01_k».proof.Proof.Gen.Pre_pi_2103_ReferenceIdeal
public import proofs.«01_k».proof.Proof.Gen.Pre_pi_2130_ReferenceIdeal
public import proofs.«01_k».proof.Proof.Gen.Pre_pi_2301_ReferenceIdeal
public import proofs.«01_k».proof.Proof.Gen.Pre_pi_2310_ReferenceIdeal
public import proofs.«01_k».proof.Proof.Gen.Pre_pi_3012_ReferenceIdeal
public import proofs.«01_k».proof.Proof.Gen.Pre_pi_3021_ReferenceIdeal
public import proofs.«01_k».proof.Proof.Gen.Pre_pi_3102_ReferenceIdeal
public import proofs.«01_k».proof.Proof.Gen.Pre_pi_3120_ReferenceIdeal
public import proofs.«01_k».proof.Proof.Gen.Pre_pi_3201_ReferenceIdeal
public import proofs.«01_k».proof.Proof.Gen.Pre_pi_3210_ReferenceIdeal
public import Idealize.ShloMosaic.Adequacy
public import Idealize.ShloMosaic.Init

@[expose] public section

noncomputable section

namespace Cert.Proof

open Idealize.ShloMosaic Idealize.SL.Sem Cert.Permute

set_option maxHeartbeats 8000000 in
theorem claim : Cert.Claim := ⟨Cert.Kernel.Gen.facts, Cert.KernelIdeal.Gen.facts, Cert.ReferenceIdeal.Gen.facts, Cert.Pre_pi_0123_Kernel.Gen.facts, Cert.Pre_pi_0132_Kernel.Gen.facts, Cert.Pre_pi_0213_Kernel.Gen.facts, Cert.Pre_pi_0231_Kernel.Gen.facts, Cert.Pre_pi_0312_Kernel.Gen.facts, Cert.Pre_pi_0321_Kernel.Gen.facts, Cert.Pre_pi_1023_Kernel.Gen.facts, Cert.Pre_pi_1032_Kernel.Gen.facts, Cert.Pre_pi_1203_Kernel.Gen.facts, Cert.Pre_pi_1230_Kernel.Gen.facts, Cert.Pre_pi_1302_Kernel.Gen.facts, Cert.Pre_pi_1320_Kernel.Gen.facts, Cert.Pre_pi_2013_Kernel.Gen.facts, Cert.Pre_pi_2031_Kernel.Gen.facts, Cert.Pre_pi_2103_Kernel.Gen.facts, Cert.Pre_pi_2130_Kernel.Gen.facts, Cert.Pre_pi_2301_Kernel.Gen.facts, Cert.Pre_pi_2310_Kernel.Gen.facts, Cert.Pre_pi_3012_Kernel.Gen.facts, Cert.Pre_pi_3021_Kernel.Gen.facts, Cert.Pre_pi_3102_Kernel.Gen.facts, Cert.Pre_pi_3120_Kernel.Gen.facts, Cert.Pre_pi_3201_Kernel.Gen.facts, Cert.Pre_pi_3210_Kernel.Gen.facts, Cert.Pre_pi_0123_ReferenceIdeal.Gen.facts, Cert.Pre_pi_0132_ReferenceIdeal.Gen.facts, Cert.Pre_pi_0213_ReferenceIdeal.Gen.facts, Cert.Pre_pi_0231_ReferenceIdeal.Gen.facts, Cert.Pre_pi_0312_ReferenceIdeal.Gen.facts, Cert.Pre_pi_0321_ReferenceIdeal.Gen.facts, Cert.Pre_pi_1023_ReferenceIdeal.Gen.facts, Cert.Pre_pi_1032_ReferenceIdeal.Gen.facts, Cert.Pre_pi_1203_ReferenceIdeal.Gen.facts, Cert.Pre_pi_1230_ReferenceIdeal.Gen.facts, Cert.Pre_pi_1302_ReferenceIdeal.Gen.facts, Cert.Pre_pi_1320_ReferenceIdeal.Gen.facts, Cert.Pre_pi_2013_ReferenceIdeal.Gen.facts, Cert.Pre_pi_2031_ReferenceIdeal.Gen.facts, Cert.Pre_pi_2103_ReferenceIdeal.Gen.facts, Cert.Pre_pi_2130_ReferenceIdeal.Gen.facts, Cert.Pre_pi_2301_ReferenceIdeal.Gen.facts, Cert.Pre_pi_2310_ReferenceIdeal.Gen.facts, Cert.Pre_pi_3012_ReferenceIdeal.Gen.facts, Cert.Pre_pi_3021_ReferenceIdeal.Gen.facts, Cert.Pre_pi_3102_ReferenceIdeal.Gen.facts, Cert.Pre_pi_3120_ReferenceIdeal.Gen.facts, Cert.Pre_pi_3201_ReferenceIdeal.Gen.facts, Cert.Pre_pi_3210_ReferenceIdeal.Gen.facts, by
  repeat' refine And.intro ?_ ?_
  all_goals first
    | exact trivial
    | exact fun m g _ => Reference.run_quiet m g
    | exact fun m g h => printed_frame (F := Bits) (by decide +kernel) m g h
    | exact fun m g h => kernel_frame (F := Idealize.ShloMosaic.Ideal) (by decide +kernel) m g h
    | exact fun m g m' g' h hm => kernel_reference (by decide +kernel) m g m' g' h hm⟩

end Cert.Proof

end
